-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "log2e_inv_sqrt_d" .f32 0x3E0293EE#32 (((Real.log 2)⁻¹ * (Real.sqrt 128)⁻¹ : ℝ) : EReal)

def preserves_Reference_ReferenceIdeal : Prop :=
  IdealRules.named_const.Statement Cert.ReferenceIdeal.κ "inv_sqrt_d" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S2x40x7808x128 : Shape := ⟨4, ![2, 40, 7808, 128]⟩
abbrev S2x40x128x7808 : Shape := ⟨4, ![2, 40, 128, 7808]⟩
abbrev S2x61x40 : Shape := ⟨3, ![2, 61, 40]⟩
abbrev S2x40 : Shape := ⟨2, ![2, 40]⟩
abbrev S2x40x61 : Shape := ⟨3, ![2, 40, 61]⟩
abbrev S80x61 : Shape := ⟨2, ![80, 61]⟩
abbrev S80x7808x128 : Shape := ⟨3, ![80, 7808, 128]⟩
abbrev S80x128x7808 : Shape := ⟨3, ![80, 128, 7808]⟩
abbrev S80x1 : Shape := ⟨2, ![80, 1]⟩
abbrev S2x7800x5120 : Shape := ⟨3, ![2, 7800, 5120]⟩
abbrev S1x256x128 : Shape := ⟨3, ![1, 256, 128]⟩
abbrev S1x7808x128 : Shape := ⟨3, ![1, 7808, 128]⟩
abbrev S1x128x7808 : Shape := ⟨3, ![1, 128, 7808]⟩
abbrev S7808x256 : Shape := ⟨2, ![7808, 256]⟩
abbrev S8x256 : Shape := ⟨2, ![8, 256]⟩
abbrev S128x256 : Shape := ⟨2, ![128, 256]⟩
abbrev S1x1 : Shape := ⟨2, ![1, 1]⟩
abbrev S1x128 : Shape := ⟨2, ![1, 128]⟩
abbrev S1x256 : Shape := ⟨2, ![1, 256]⟩
abbrev S256x128 : Shape := ⟨2, ![256, 128]⟩
abbrev S256x256 : Shape := ⟨2, ![256, 256]⟩
abbrev S32x8x256 : Shape := ⟨3, ![32, 8, 256]⟩
abbrev S1x8x256 : Shape := ⟨3, ![1, 8, 256]⟩
abbrev S1x128x256 : Shape := ⟨3, ![1, 128, 256]⟩
abbrev S16x8x256 : Shape := ⟨3, ![16, 8, 256]⟩
abbrev S120x256 : Shape := ⟨2, ![120, 256]⟩
abbrev S15x8x256 : Shape := ⟨3, ![15, 8, 256]⟩
abbrev S1x128x128 : Shape := ⟨3, ![1, 128, 128]⟩
abbrev S128x128 : Shape := ⟨2, ![128, 128]⟩
abbrev S256 : Shape := ⟨1, ![256]⟩

abbrev nBuf : Space → Nat
  | .hbm => 15
  | .vmem => 10
  | .smem => 3
  | _ => 0

abbrev bufTy : (tb : Table) → Fin (tcTables nBuf tb) → BufTy
  | .hbm, ⟨0, _⟩ => ⟨S2x40x7808x128, .fp8e4m3⟩
  | .hbm, ⟨1, _⟩ => ⟨S2x40x7808x128, .fp8e4m3⟩
  | .hbm, ⟨2, _⟩ => ⟨S2x40x128x7808, .fp8e4m3⟩
  | .hbm, ⟨3, _⟩ => ⟨S2x61x40, .f32⟩
  | .hbm, ⟨4, _⟩ => ⟨S2x61x40, .f32⟩
  | .hbm, ⟨5, _⟩ => ⟨S2x40, .f32⟩
  | .hbm, ⟨6, _⟩ => ⟨S2x40x61, .f32⟩
  | .hbm, ⟨7, _⟩ => ⟨S80x61, .f32⟩
  | .hbm, ⟨8, _⟩ => ⟨S2x40x61, .f32⟩
  | .hbm, ⟨9, _⟩ => ⟨S80x61, .f32⟩
  | .hbm, ⟨10, _⟩ => ⟨S80x7808x128, .fp8e4m3⟩
  | .hbm, ⟨11, _⟩ => ⟨S80x7808x128, .fp8e4m3⟩
  | .hbm, ⟨12, _⟩ => ⟨S80x128x7808, .fp8e4m3⟩
  | .hbm, ⟨13, _⟩ => ⟨S80x1, .f32⟩
  | .hbm, ⟨14, _⟩ => ⟨S2x7800x5120, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x7808x128, .fp8e4m3⟩
  | .local _ .vmem, ⟨3, _⟩ => ⟨S1x7808x128, .fp8e4m3⟩
  | .local _ .vmem, ⟨4, _⟩ => ⟨S1x128x7808, .fp8e4m3⟩
  | .local _ .vmem, ⟨5, _⟩ => ⟨S1x128x7808, .fp8e4m3⟩
  | .local _ .vmem, ⟨6, _⟩ => ⟨S1x256x128, .bf16⟩
  | .local _ .vmem, ⟨7, _⟩ => ⟨S1x256x128, .bf16⟩
  | .local _ .vmem, ⟨8, _⟩ => ⟨S7808x256, .f32⟩
  | .local _ .vmem, ⟨9, _⟩ => ⟨S8x256, .f32⟩
  | .local _ .smem, ⟨0, _⟩ => ⟨S80x61, .f32⟩
  | .local _ .smem, ⟨1, _⟩ => ⟨S80x61, .f32⟩
  | .local _ .smem, ⟨2, _⟩ => ⟨S80x1, .f32⟩
  | _, _ => ⟨S2x40x7808x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2481], ![false]⟩

def k0_cond1 (i : grid0.Coords) : BitVec 1 :=
  let arg0 : BitVec 32 := BitVec.ofNat 32 (i 0).val
  let c0_i32_14 : BitVec 32 := 0#32
  let v39 : BitVec 1 := Scalar.cmpi .eq arg0 c0_i32_14
  let v40 : BitVec 32 := Scalar.extui v39
  let c0_i32_15 : BitVec 32 := 0#32
  let v41 : BitVec 1 := Scalar.cmpi .ne v40 c0_i32_15
  v41

@[reducible] def k0_t1_loop : Scf.Loop 32 :=
  let c0_i32_562 : BitVec 32 := 0#32
  let c61_i32 : BitVec 32 := 61#32
  let v1469 : BitVec 32 := Scalar.addi c0_i32_562 c61_i32
  let c1_i32_563 : BitVec 32 := 1#32
  ⟨c0_i32_562, v1469, c1_i32_563⟩
def k0_off1 (k0_t1 : Fin k0_t1_loop.trips) : Fin 2 → Nat :=
  let c0_i32_562 : BitVec 32 := 0#32
  let c1_i32_563 : BitVec 32 := 1#32
  let arg10 : BitVec 32 := Scf.iv c0_i32_562 c1_i32_563 k0_t1
  let c128_i32 : BitVec 32 := 128#32
  let v1471 : BitVec 32 := Scalar.muli arg10 c128_i32
  let v1472 : Index := Scalar.indexCast v1471
  let c0_566 : Index := 0#32
  ![v1472.toNat, 0]
def k0_off2 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v45 : Index := Scalar.indexCast v19
  let c31_i32_6 : BitVec 32 := 31#32
  let v20 : BitVec 32 := Scalar.muli v19 c31_i32_6
  let v21 : BitVec 32 := Scalar.subi v0 v20
  let c2_i32 : BitVec 32 := 2#32
  let v42 : BitVec 32 := Scalar.muli v21 c2_i32
  let v46 : Index := Scalar.indexCast v42
  ![v45.toNat, v46.toNat]
def k0_off3 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v49 : Index := Scalar.indexCast v19
  let c31_i32_6 : BitVec 32 := 31#32
  let v20 : BitVec 32 := Scalar.muli v19 c31_i32_6
  let v21 : BitVec 32 := Scalar.subi v0 v20
  let c2_i32 : BitVec 32 := 2#32
  let v42 : BitVec 32 := Scalar.muli v21 c2_i32
  let c1_i32_16 : BitVec 32 := 1#32
  let v43 : BitVec 32 := Scalar.addi v42 c1_i32_16
  let c60_i32 : BitVec 32 := 60#32
  let v44 : BitVec 32 := Scalar.minsi v43 c60_i32
  let v50 : Index := Scalar.indexCast v44
  ![v49.toNat, v50.toNat]
def k0_off4 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v78 : Index := Scalar.indexCast v19
  let c0_34 : Index := 0#32
  ![v78.toNat, 0]
def k0_off5 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v92 : Index := Scalar.indexCast v19
  let c1 : Index := 1#32
  ![v92.toNat, 1]
def k0_off6 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v123 : Index := Scalar.indexCast v19
  let c2 : Index := 2#32
  ![v123.toNat, 2]
def k0_off7 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v137 : Index := Scalar.indexCast v19
  let c3 : Index := 3#32
  ![v137.toNat, 3]
def k0_off8 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v168 : Index := Scalar.indexCast v19
  let c4 : Index := 4#32
  ![v168.toNat, 4]
def k0_off9 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v182 : Index := Scalar.indexCast v19
  let c5 : Index := 5#32
  ![v182.toNat, 5]
def k0_off10 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v213 : Index := Scalar.indexCast v19
  let c6 : Index := 6#32
  ![v213.toNat, 6]
def k0_off11 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v227 : Index := Scalar.indexCast v19
  let c7 : Index := 7#32
  ![v227.toNat, 7]
def k0_off12 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v258 : Index := Scalar.indexCast v19
  let c8 : Index := 8#32
  ![v258.toNat, 8]
def k0_off13 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v272 : Index := Scalar.indexCast v19
  let c9 : Index := 9#32
  ![v272.toNat, 9]
def k0_off14 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v303 : Index := Scalar.indexCast v19
  let c10 : Index := 10#32
  ![v303.toNat, 10]
def k0_off15 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v317 : Index := Scalar.indexCast v19
  let c11 : Index := 11#32
  ![v317.toNat, 11]
def k0_off16 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v348 : Index := Scalar.indexCast v19
  let c12 : Index := 12#32
  ![v348.toNat, 12]
def k0_off17 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v362 : Index := Scalar.indexCast v19
  let c13 : Index := 13#32
  ![v362.toNat, 13]
def k0_off18 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v393 : Index := Scalar.indexCast v19
  let c14 : Index := 14#32
  ![v393.toNat, 14]
def k0_off19 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v407 : Index := Scalar.indexCast v19
  let c15 : Index := 15#32
  ![v407.toNat, 15]
def k0_off20 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v438 : Index := Scalar.indexCast v19
  let c16 : Index := 16#32
  ![v438.toNat, 16]
def k0_off21 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v452 : Index := Scalar.indexCast v19
  let c17 : Index := 17#32
  ![v452.toNat, 17]
def k0_off22 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v483 : Index := Scalar.indexCast v19
  let c18 : Index := 18#32
  ![v483.toNat, 18]
def k0_off23 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v497 : Index := Scalar.indexCast v19
  let c19 : Index := 19#32
  ![v497.toNat, 19]
def k0_off24 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v528 : Index := Scalar.indexCast v19
  let c20 : Index := 20#32
  ![v528.toNat, 20]
def k0_off25 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v542 : Index := Scalar.indexCast v19
  let c21 : Index := 21#32
  ![v542.toNat, 21]
def k0_off26 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v573 : Index := Scalar.indexCast v19
  let c22 : Index := 22#32
  ![v573.toNat, 22]
def k0_off27 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v587 : Index := Scalar.indexCast v19
  let c23 : Index := 23#32
  ![v587.toNat, 23]
def k0_off28 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v618 : Index := Scalar.indexCast v19
  let c24 : Index := 24#32
  ![v618.toNat, 24]
def k0_off29 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v632 : Index := Scalar.indexCast v19
  let c25 : Index := 25#32
  ![v632.toNat, 25]
def k0_off30 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v663 : Index := Scalar.indexCast v19
  let c26 : Index := 26#32
  ![v663.toNat, 26]
def k0_off31 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v677 : Index := Scalar.indexCast v19
  let c27 : Index := 27#32
  ![v677.toNat, 27]
def k0_off32 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v708 : Index := Scalar.indexCast v19
  let c28 : Index := 28#32
  ![v708.toNat, 28]
def k0_off33 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v722 : Index := Scalar.indexCast v19
  let c29 : Index := 29#32
  ![v722.toNat, 29]
def k0_off34 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v753 : Index := Scalar.indexCast v19
  let c30 : Index := 30#32
  ![v753.toNat, 30]
def k0_off35 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v767 : Index := Scalar.indexCast v19
  let c31 : Index := 31#32
  ![v767.toNat, 31]
def k0_off36 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v798 : Index := Scalar.indexCast v19
  let c32 : Index := 32#32
  ![v798.toNat, 32]
def k0_off37 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v812 : Index := Scalar.indexCast v19
  let c33 : Index := 33#32
  ![v812.toNat, 33]
def k0_off38 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v843 : Index := Scalar.indexCast v19
  let c34 : Index := 34#32
  ![v843.toNat, 34]
def k0_off39 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v857 : Index := Scalar.indexCast v19
  let c35 : Index := 35#32
  ![v857.toNat, 35]
def k0_off40 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v888 : Index := Scalar.indexCast v19
  let c36 : Index := 36#32
  ![v888.toNat, 36]
def k0_off41 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v902 : Index := Scalar.indexCast v19
  let c37 : Index := 37#32
  ![v902.toNat, 37]
def k0_off42 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v933 : Index := Scalar.indexCast v19
  let c38 : Index := 38#32
  ![v933.toNat, 38]
def k0_off43 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v947 : Index := Scalar.indexCast v19
  let c39 : Index := 39#32
  ![v947.toNat, 39]
def k0_off44 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v978 : Index := Scalar.indexCast v19
  let c40 : Index := 40#32
  ![v978.toNat, 40]
def k0_off45 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v992 : Index := Scalar.indexCast v19
  let c41 : Index := 41#32
  ![v992.toNat, 41]
def k0_off46 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1023 : Index := Scalar.indexCast v19
  let c42 : Index := 42#32
  ![v1023.toNat, 42]
def k0_off47 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1037 : Index := Scalar.indexCast v19
  let c43 : Index := 43#32
  ![v1037.toNat, 43]
def k0_off48 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1068 : Index := Scalar.indexCast v19
  let c44 : Index := 44#32
  ![v1068.toNat, 44]
def k0_off49 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1082 : Index := Scalar.indexCast v19
  let c45 : Index := 45#32
  ![v1082.toNat, 45]
def k0_off50 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1113 : Index := Scalar.indexCast v19
  let c46 : Index := 46#32
  ![v1113.toNat, 46]
def k0_off51 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1127 : Index := Scalar.indexCast v19
  let c47 : Index := 47#32
  ![v1127.toNat, 47]
def k0_off52 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1158 : Index := Scalar.indexCast v19
  let c48 : Index := 48#32
  ![v1158.toNat, 48]
def k0_off53 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1172 : Index := Scalar.indexCast v19
  let c49 : Index := 49#32
  ![v1172.toNat, 49]
def k0_off54 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1203 : Index := Scalar.indexCast v19
  let c50 : Index := 50#32
  ![v1203.toNat, 50]
def k0_off55 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1217 : Index := Scalar.indexCast v19
  let c51 : Index := 51#32
  ![v1217.toNat, 51]
def k0_off56 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1248 : Index := Scalar.indexCast v19
  let c52 : Index := 52#32
  ![v1248.toNat, 52]
def k0_off57 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1262 : Index := Scalar.indexCast v19
  let c53 : Index := 53#32
  ![v1262.toNat, 53]
def k0_off58 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1293 : Index := Scalar.indexCast v19
  let c54 : Index := 54#32
  ![v1293.toNat, 54]
def k0_off59 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1307 : Index := Scalar.indexCast v19
  let c55 : Index := 55#32
  ![v1307.toNat, 55]
def k0_off60 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1338 : Index := Scalar.indexCast v19
  let c56 : Index := 56#32
  ![v1338.toNat, 56]
def k0_off61 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1352 : Index := Scalar.indexCast v19
  let c57 : Index := 57#32
  ![v1352.toNat, 57]
def k0_off62 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1383 : Index := Scalar.indexCast v19
  let c58 : Index := 58#32
  ![v1383.toNat, 58]
def k0_off63 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1397 : Index := Scalar.indexCast v19
  let c59 : Index := 59#32
  ![v1397.toNat, 59]
def k0_off64 (i : grid0.Coords) : Fin 2 → Nat :=
  let arg0 : BitVec 32 := BitVec.ofNat 32 (i 0).val
  let c2479_i32 : BitVec 32 := 2479#32
  let v0 : BitVec 32 := Scalar.minsi arg0 c2479_i32
  let c0_i32_0 : BitVec 32 := 0#32
  let v4 : BitVec 1 := Scalar.cmpi .sgt v0 c0_i32_0
  let v5 : BitVec 32 := Scalar.extui v4
  let c0_i32_1 : BitVec 32 := 0#32
  let v6 : BitVec 1 := Scalar.cmpi .slt v0 c0_i32_1
  let v7 : BitVec 32 := Scalar.extui v6
  let v8 : BitVec 32 := Scalar.subi v5 v7
  let c31_i32 : BitVec 32 := 31#32
  let c0_i32_2 : BitVec 32 := 0#32
  let v9 : BitVec 1 := Scalar.cmpi .sgt c31_i32 c0_i32_2
  let v10 : BitVec 32 := Scalar.extui v9
  let c0_i32_3 : BitVec 32 := 0#32
  let v11 : BitVec 1 := Scalar.cmpi .slt c31_i32 c0_i32_3
  let v12 : BitVec 32 := Scalar.extui v11
  let v13 : BitVec 32 := Scalar.subi v10 v12
  let v14 : BitVec 1 := Scalar.cmpi .ne v8 v13
  let v15 : BitVec 32 := Scalar.remsi v0 c31_i32
  let c0_i32_4 : BitVec 32 := 0#32
  let v16 : BitVec 1 := Scalar.cmpi .ne v15 c0_i32_4
  let v17 : BitVec 1 := Scalar.andi v14 v16
  let v3 : BitVec 32 := Scalar.divsi v0 c31_i32
  let c1_i32_5 : BitVec 32 := 1#32
  let v18 : BitVec 32 := Scalar.subi v3 c1_i32_5
  let v19 : BitVec 32 := Scalar.select v17 v18 v3
  let v1430 : Index := Scalar.indexCast v19
  let c60 : Index := 60#32
  ![v1430.toNat, 60]
def k0_off65 (i : grid0.Coords) : Fin 2 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let c0_i32_8 : BitVec 32 := 0#32
  let v23 : BitVec 1 := Scalar.cmpi .sgt v2 c0_i32_8
  let v24 : BitVec 32 := Scalar.extui v23
  let c0_i32_9 : BitVec 32 := 0#32
  let v25 : BitVec 1 := Scalar.cmpi .slt v2 c0_i32_9
  let v26 : BitVec 32 := Scalar.extui v25
  let v27 : BitVec 32 := Scalar.subi v24 v26
  let c31_i32_7 : BitVec 32 := 31#32
  let c0_i32_10 : BitVec 32 := 0#32
  let v28 : BitVec 1 := Scalar.cmpi .sgt c31_i32_7 c0_i32_10
  let v29 : BitVec 32 := Scalar.extui v28
  let c0_i32_11 : BitVec 32 := 0#32
  let v30 : BitVec 1 := Scalar.cmpi .slt c31_i32_7 c0_i32_11
  let v31 : BitVec 32 := Scalar.extui v30
  let v32 : BitVec 32 := Scalar.subi v29 v31
  let v33 : BitVec 1 := Scalar.cmpi .ne v27 v32
  let v34 : BitVec 32 := Scalar.remsi v2 c31_i32_7
  let c0_i32_12 : BitVec 32 := 0#32
  let v35 : BitVec 1 := Scalar.cmpi .ne v34 c0_i32_12
  let v36 : BitVec 1 := Scalar.andi v33 v35
  let v22 : BitVec 32 := Scalar.divsi v2 c31_i32_7
  let c1_i32_13 : BitVec 32 := 1#32
  let v37 : BitVec 32 := Scalar.subi v22 c1_i32_13
  let v38 : BitVec 32 := Scalar.select v36 v37 v22
  let v1454 : Index := Scalar.indexCast v38
  let c0_555 : Index := 0#32
  ![v1454.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2479_i32 : BitVec 32 := 2479#32
  let v0 : BitVec 32 := Scalar.minsi arg0 c2479_i32
  let c31_i32 : BitVec 32 := 31#32
  let v1 : BitVec 32 := Scalar.divsi v0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c31_i32 c0_i32_1
  let v8 : BitVec 32 := Scalar.extui v7
  let c0_i32_2 : BitVec 32 := 0#32
  let v9 : BitVec 1 := Scalar.cmpi .slt c31_i32 c0_i32_2
  let v10 : BitVec 32 := Scalar.extui v9
  let v11 : BitVec 32 := Scalar.subi v8 v10
  let v12 : BitVec 1 := Scalar.cmpi .ne v6 v11
  let v13 : BitVec 32 := Scalar.remsi v0 c31_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.muli v17 c31_i32_4
  let v19 : BitVec 32 := Scalar.subi v0 v18
  let c0_i32_5 : BitVec 32 := 0#32
  let c0_i32_6 : BitVec 32 := 0#32
  ![v17.toNat, v19.toNat, c0_i32_5.toNat]

def cc0_transform_4 (i : grid0.Coords) : Fin 3 → Nat :=
  let arg0 : BitVec 32 := BitVec.ofNat 32 (i 0).val
  let c2479_i32 : BitVec 32 := 2479#32
  let v0 : BitVec 32 := Scalar.minsi arg0 c2479_i32
  let c31_i32 : BitVec 32 := 31#32
  let v1 : BitVec 32 := Scalar.divsi v0 c31_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c31_i32 c0_i32_1
  let v8 : BitVec 32 := Scalar.extui v7
  let c0_i32_2 : BitVec 32 := 0#32
  let v9 : BitVec 1 := Scalar.cmpi .slt c31_i32 c0_i32_2
  let v10 : BitVec 32 := Scalar.extui v9
  let v11 : BitVec 32 := Scalar.subi v8 v10
  let v12 : BitVec 1 := Scalar.cmpi .ne v6 v11
  let v13 : BitVec 32 := Scalar.remsi v0 c31_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c31_i32 : BitVec 32 := 31#32
  let v2 : BitVec 32 := Scalar.divsi v1 c31_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c31_i32 c0_i32_2
  let v9 : BitVec 32 := Scalar.extui v8
  let c0_i32_3 : BitVec 32 := 0#32
  let v10 : BitVec 1 := Scalar.cmpi .slt c31_i32 c0_i32_3
  let v11 : BitVec 32 := Scalar.extui v10
  let v12 : BitVec 32 := Scalar.subi v9 v11
  let v13 : BitVec 1 := Scalar.cmpi .ne v7 v12
  let v14 : BitVec 32 := Scalar.remsi v1 c31_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c31_i32 : BitVec 32 := 31#32
  let v2 : BitVec 32 := Scalar.divsi v1 c31_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c31_i32 c0_i32_2
  let v9 : BitVec 32 := Scalar.extui v8
  let c0_i32_3 : BitVec 32 := 0#32
  let v10 : BitVec 1 := Scalar.cmpi .slt c31_i32 c0_i32_3
  let v11 : BitVec 32 := Scalar.extui v10
  let v12 : BitVec 32 := Scalar.subi v9 v11
  let v13 : BitVec 1 := Scalar.cmpi .ne v7 v12
  let v14 : BitVec 32 := Scalar.remsi v1 c31_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c40_i32 : BitVec 32 := 40#32
  let v19 : BitVec 32 := Scalar.divsi v18 c40_i32
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c40_i32 c0_i32_8
  let v26 : BitVec 32 := Scalar.extui v25
  let c0_i32_9 : BitVec 32 := 0#32
  let v27 : BitVec 1 := Scalar.cmpi .slt c40_i32 c0_i32_9
  let v28 : BitVec 32 := Scalar.extui v27
  let v29 : BitVec 32 := Scalar.subi v26 v28
  let v30 : BitVec 1 := Scalar.cmpi .ne v24 v29
  let v31 : BitVec 32 := Scalar.remsi v18 c40_i32
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c31_i32_12 : BitVec 32 := 31#32
  let v36 : BitVec 32 := Scalar.muli v18 c31_i32_12
  let v37 : BitVec 32 := Scalar.subi v1 v36
  let c40_i32_13 : BitVec 32 := 40#32
  let v38 : BitVec 32 := Scalar.muli v35 c40_i32_13
  let v39 : BitVec 32 := Scalar.subi v18 v38
  let c0_i32_14 : BitVec 32 := 0#32
  ![v35.toNat, v37.toNat, v39.toNat]

abbrev stage0_0 : Fin 1 → Memref sig .tc .smem S80x61 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S80x61 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S80x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x7808x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x7808 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e_inv_sqrt_d" => some (((Real.log 2)⁻¹ * (Real.sqrt 128)⁻¹ : ℝ) : EReal)
  | _ => none
-- ==== ReferenceIdeal.lean ====
variable {F : FTy → Type} [FloatOps F] [Named F]
def κ : String → Option EReal := fun
  | "inv_sqrt_d" => some (((Real.sqrt 128)⁻¹ : ℝ) : EReal)
  | _ => none
-- ==== Reference.lean ====
abbrev S2x40x7808x128 : Shape := ⟨4, ![2, 40, 7808, 128]⟩
abbrev S2x40x128x7808 : Shape := ⟨4, ![2, 40, 128, 7808]⟩
abbrev S2x61x40 : Shape := ⟨3, ![2, 61, 40]⟩
abbrev S2x40 : Shape := ⟨2, ![2, 40]⟩
abbrev S2x61x128x40 : Shape := ⟨4, ![2, 61, 128, 40]⟩
abbrev S2x7808x40 : Shape := ⟨3, ![2, 7808, 40]⟩
abbrev S2x7800x40 : Shape := ⟨3, ![2, 7800, 40]⟩
abbrev S80x7808x128 : Shape := ⟨3, ![80, 7808, 128]⟩
abbrev S80x128x7808 : Shape := ⟨3, ![80, 128, 7808]⟩
abbrev S2x40x7800 : Shape := ⟨3, ![2, 40, 7800]⟩
abbrev S80x7800x1 : Shape := ⟨3, ![80, 7800, 1]⟩
abbrev S80x1x7800 : Shape := ⟨3, ![80, 1, 7800]⟩
abbrev S80x1x1 : Shape := ⟨3, ![80, 1, 1]⟩
abbrev S2x7800x5120 : Shape := ⟨3, ![2, 7800, 5120]⟩
abbrev S80x7800x128 : Shape := ⟨3, ![80, 7800, 128]⟩
abbrev S80x7800x7800 : Shape := ⟨3, ![80, 7800, 7800]⟩
abbrev S80x7800 : Shape := ⟨2, ![80, 7800]⟩
abbrev S80x128x7800 : Shape := ⟨3, ![80, 128, 7800]⟩
abbrev S2x40x7800x128 : Shape := ⟨4, ![2, 40, 7800, 128]⟩
abbrev S2x7800x40x128 : Shape := ⟨4, ![2, 7800, 40, 128]⟩

abbrev nBuf : Space → Nat
  | .hbm => 21
  | .vmem => 7
  | .smem => 0
  | _ => 0

abbrev bufTy : (tb : Table) → Fin (tcTables nBuf tb) → BufTy
  | .hbm, ⟨0, _⟩ => ⟨S2x40x7808x128, .fp8e4m3⟩
  | .hbm, ⟨1, _⟩ => ⟨S2x40x7808x128, .fp8e4m3⟩
  | .hbm, ⟨2, _⟩ => ⟨S2x40x128x7808, .fp8e4m3⟩
  | .hbm, ⟨3, _⟩ => ⟨S2x61x40, .f32⟩
  | .hbm, ⟨4, _⟩ => ⟨S2x61x40, .f32⟩
  | .hbm, ⟨5, _⟩ => ⟨S2x40, .f32⟩
  | .hbm, ⟨6, _⟩ => ⟨S2x61x128x40, .f32⟩
  | .hbm, ⟨7, _⟩ => ⟨S2x7808x40, .f32⟩
  | .hbm, ⟨8, _⟩ => ⟨S2x7800x40, .f32⟩
  | .hbm, ⟨9, _⟩ => ⟨S2x61x128x40, .f32⟩
  | .hbm, ⟨10, _⟩ => ⟨S2x7808x40, .f32⟩
  | .hbm, ⟨11, _⟩ => ⟨S2x7800x40, .f32⟩
  | .hbm, ⟨12, _⟩ => ⟨S80x7808x128, .fp8e4m3⟩
  | .hbm, ⟨13, _⟩ => ⟨S80x7808x128, .fp8e4m3⟩
  | .hbm, ⟨14, _⟩ => ⟨S80x128x7808, .fp8e4m3⟩
  | .hbm, ⟨15, _⟩ => ⟨S2x40x7800, .f32⟩
  | .hbm, ⟨16, _⟩ => ⟨S80x7800x1, .f32⟩
  | .hbm, ⟨17, _⟩ => ⟨S2x40x7800, .f32⟩
  | .hbm, ⟨18, _⟩ => ⟨S80x1x7800, .f32⟩
  | .hbm, ⟨19, _⟩ => ⟨S80x1x1, .f32⟩
  | .hbm, ⟨20, _⟩ => ⟨S2x7800x5120, .bf16⟩
  | .local _ .vmem, ⟨0, _⟩ => ⟨S80x7808x128, .fp8e4m3⟩
  | .local _ .vmem, ⟨1, _⟩ => ⟨S80x7808x128, .fp8e4m3⟩
  | .local _ .vmem, ⟨2, _⟩ => ⟨S80x128x7808, .fp8e4m3⟩
  | .local _ .vmem, ⟨3, _⟩ => ⟨S80x7800x1, .f32⟩
  | .local _ .vmem, ⟨4, _⟩ => ⟨S80x1x7800, .f32⟩
  | .local _ .vmem, ⟨5, _⟩ => ⟨S80x1x1, .f32⟩
  | .local _ .vmem, ⟨6, _⟩ => ⟨S2x7800x5120, .bf16⟩
  | _, _ => ⟨S2x40x7808x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S80x7808x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x7808x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x128x7808 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x7800x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x1x7800 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x7800x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
module

public import proofs.«01_k».proof.Proof.Gen.Kernel
public import proofs.«01_k».proof.Proof.Gen.Kernel.Frame
public import proofs.«01_k».proof.Proof.Gen.Kernel.Loops
public import Idealize.ShloMosaic.Lib.Tactic
public import Idealize.ShloMosaic.Lib.Pipeline.Kit

/-! The frame of `Kernel`: the kernel runs to its end at every grid point whatever its two scratch buffers hold, so
the program terminates with its six argument arrays unchanged and every semaphore at zero. -/

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 40000000 in
/-- The body at any grid point: from its inputs at known contents and its output block and scratch at any, it runs to
the end and leaves the inputs as they were. The two cases are whether the first grid point's reset runs. -/
theorem body_runs (c : Dev nD) (E : Set ℕ) (i : grid0.Coords)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (x1 : Vec F S80x61 .f32) (x2 : Vec F S80x61 .f32) (x3 : Vec F S80x1 .f32) (x4 : Vec F S1x256x128 .fp8e4m3)
    (x5 : Vec F S1x7808x128 .fp8e4m3) (x6 : Vec F S1x128x7808 .fp8e4m3) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9) K := by
  simp only [cc0_attend_eq_skeleton]; unfold cc0_attend_skel
  simp only [k0_part37_eq_skeleton]; unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  by_cases hc : k0_cond1 i = 1#1
  all_goals
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; iexists _; isplitr; swap; · iexact H7
      ipureintro; rfl
    isplitl [H8]
    · iexists _; iexists _; isplitr; swap; · iexact H8
      ipureintro; rfl
    iexists _; iexists _; isplitr; swap; · iexact H9
    ipureintro; rfl

variable (m : (ℓ : Loc nD τ sig) → Buf (Elt F) ℓ) (ρ : Dev nD → PrngReg)

/-- The proof data of the frame: the arrays as the region finds them, each whole input block left in place, nothing
stated of the scratch; the query block and the output block are forgotten (`forget`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
    | ⟨4, _⟩ => iblk m c 4 t
    | ⟨5, _⟩ => iblk m c 5 t
    | ⟨6, _⟩ => fun _ => Classical.arbitrary _
  Φ _ := Pipeline.ΦA spec0 c
  q _ := fullShare
  owed _ := 0

/-- The windows the frame says nothing of: the query block, which its fetch may fill only in part, and the output. -/
def forget : Fin cfg0.W → Bool
  | ⟨0, _⟩ => false
  | ⟨1, _⟩ => false
  | ⟨2, _⟩ => false
  | ⟨3, _⟩ => true
  | ⟨4, _⟩ => false
  | ⟨5, _⟩ => false
  | ⟨6, _⟩ => true

/-- The arrays are those the region is entered with. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]

/-- Each whole input's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block before the body. -/
theorem before_1 (c : Dev nD) (t : Fin cfg0.N) (d) : (dats m 0 c).before 1 t d = iblk m c 1 t :=
  before0_1_of m (dats m 0 c) (A_eq m c 1) (after_1 m c) t d
/-- Window 2's buffer holds its block before the body. -/
theorem before_2 (c : Dev nD) (t : Fin cfg0.N) (d) : (dats m 0 c).before 2 t d = iblk m c 2 t :=
  before0_2_of m (dats m 0 c) (A_eq m c 2) (after_2 m c) t d
/-- Window 4's buffer holds its block before the body. -/
theorem before_4 (c : Dev nD) (t : Fin cfg0.N) (d) : (dats m 0 c).before 4 t d = iblk m c 4 t :=
  before0_4_of m (dats m 0 c) (A_eq m c 4) (after_4 m c) t d
/-- Window 5's buffer holds its block before the body. -/
theorem before_5 (c : Dev nD) (t : Fin cfg0.N) (d) : (dats m 0 c).before 5 t d = iblk m c 5 t :=
  before0_5_of m (dats m 0 c) (A_eq m c 5) (after_5 m c) t d

/-- The body table's row at point `t` is the kernel's body on that point's buffers. -/
theorem defs₀_row (t : Fin cfg0.N) :
    defs₀ (F := F) .tc cfg0.body (cfg0.bodyArgs t (cfg0.slots t)) = bodyAt0 t := by
  unfold defs₀; rw [Defs.onTc_tc]

/-- The pipeline's body obligation, from `body_runs` at the point's buffers and the two scratch buffers. -/
theorem body_obligation (c : Dev nD) :
    BodyObligationLoose (dats (F := F) m 0 c) (defs₀ (F := F)) Variants.none () Set.univ forget := fun t => by
  rw [bigSep_W0, bigSep_W0, defs₀_row]
  simp only [show forget 0 = false from rfl, show forget 1 = false from rfl, show forget 2 = false from rfl,
    show forget 3 = true from rfl, show forget 4 = false from rfl, show forget 5 = false from rfl, show forget 6 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  unfold bodyAt0
  iintro ⟨⟨⟨⟨%z, Hz⟩, ⟨%mm, Hm⟩⟩, Hr⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_4 m c t d4, before_5 m c t d5]
  iapply (body_runs (F := F) c Set.univ (grid0.coords t) _ _ _ _ _ _ _ _ _ _ _ _ _ _ _ _ _ _ (iblk m c 0 t) (iblk m c 1 t) (iblk m c 2 t) d3 (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hz]; · iexists z; rw [owns_whole]; iexact Hz
  isplitl [Hm]; · iexists mm; rw [owns_whole]; iexact Hm
  iintro ⟨H0, H1, H2, H3, H4, H5, H6, ⟨%z', Hz⟩, ⟨%m', Hm⟩⟩
  isplitl [Hz Hm Hr]
  · isplitl [Hz Hm]
    · isplitl [Hz]
      · iexists z'; rw [← owns_whole (c : Thread nD τ) cc0_scratch0 fullShare z']; iexact Hz
      · iexists m'; rw [← owns_whole (c : Thread nD τ) cc0_scratch1 fullShare m']; iexact Hm
    · iexact Hr
  isplitl [Ho]; · iexact Ho
  rw [after_0, after_1, after_2, after_4, after_5]
  isplitl [H0]; · iexact H0
  isplitl [H1]; · iexact H1
  isplitl [H2]; · iexact H2
  isplitl [H3]; · iexists d3; iexact H3
  isplitl [H4]; · iexact H4
  isplitl [H5]; · iexact H5
  iexact H6

-- the launch theorem's implicit arguments are found by unifying its conclusion with this one
set_option backward.isDefEq.respectTransparency.types false in
set_option maxHeartbeats 800000 in
/-- The program runs to an end with its argument arrays unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget cfgs (dats m) (0 : Fin 1) launch0 defs₀ Variants.none forget m ρ main
    (hbody := fun c => body_obligation m c)
    (hshare := fun c => (dats m 0 c).share_full fun _ => rfl) (howed := fun _ _ => rfl)
    (V := V m) (hmain := hmain m Variants.none) (hA := A_eq m) (hΦ := fun _ _ => rfl)
    (Q' := _)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Kernel.Run

end
-- ==== Proof.KernelIdealRun.lean ====
module

public import proofs.«01_k».proof.Proof.Gen.KernelIdeal
public import proofs.«01_k».proof.Proof.Gen.KernelIdeal.Frame
public import proofs.«01_k».proof.Proof.Gen.KernelIdeal.Loops
public import Idealize.ShloMosaic.Lib.Tactic
public import Idealize.ShloMosaic.Lib.Pipeline.Kit

/-! The frame of `KernelIdeal`: the kernel runs to its end at every grid point whatever its two scratch buffers hold, so
the program terminates with its six argument arrays unchanged and every semaphore at zero. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 40000000 in
/-- The body at any grid point: from its inputs at known contents and its output block and scratch at any, it runs to
the end and leaves the inputs as they were. The two cases are whether the first grid point's reset runs. -/
theorem body_runs (c : Dev nD) (E : Set ℕ) (i : grid0.Coords)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (x1 : Vec F S80x61 .f32) (x2 : Vec F S80x61 .f32) (x3 : Vec F S80x1 .f32) (x4 : Vec F S1x256x128 .fp8e4m3)
    (x5 : Vec F S1x7808x128 .fp8e4m3) (x6 : Vec F S1x128x7808 .fp8e4m3) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9) K := by
  simp only [cc0_attend_eq_skeleton]; unfold cc0_attend_skel
  simp only [k0_part37_eq_skeleton]; unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  by_cases hc : k0_cond1 i = 1#1
  all_goals
    sl_exec (disch := sl_exact hc)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; iexists _; isplitr; swap; · iexact H7
      ipureintro; rfl
    isplitl [H8]
    · iexists _; iexists _; isplitr; swap; · iexact H8
      ipureintro; rfl
    iexists _; iexists _; isplitr; swap; · iexact H9
    ipureintro; rfl

variable (m : (ℓ : Loc nD τ sig) → Buf (Elt F) ℓ) (ρ : Dev nD → PrngReg)

/-- The proof data of the frame: the arrays as the region finds them, each whole input block left in place, nothing
stated of the scratch; the query block and the output block are forgotten (`forget`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
    | ⟨4, _⟩ => iblk m c 4 t
    | ⟨5, _⟩ => iblk m c 5 t
    | ⟨6, _⟩ => fun _ => Classical.arbitrary _
  Φ _ := Pipeline.ΦA spec0 c
  q _ := fullShare
  owed _ := 0

/-- The windows the frame says nothing of: the query block, which its fetch may fill only in part, and the output. -/
def forget : Fin cfg0.W → Bool
  | ⟨0, _⟩ => false
  | ⟨1, _⟩ => false
  | ⟨2, _⟩ => false
  | ⟨3, _⟩ => true
  | ⟨4, _⟩ => false
  | ⟨5, _⟩ => false
  | ⟨6, _⟩ => true

/-- The arrays are those the region is entered with. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]

/-- Each whole input's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block before the body. -/
theorem before_1 (c : Dev nD) (t : Fin cfg0.N) (d) : (dats m 0 c).before 1 t d = iblk m c 1 t :=
  before0_1_of m (dats m 0 c) (A_eq m c 1) (after_1 m c) t d
/-- Window 2's buffer holds its block before the body. -/
theorem before_2 (c : Dev nD) (t : Fin cfg0.N) (d) : (dats m 0 c).before 2 t d = iblk m c 2 t :=
  before0_2_of m (dats m 0 c) (A_eq m c 2) (after_2 m c) t d
/-- Window 4's buffer holds its block before the body. -/
theorem before_4 (c : Dev nD) (t : Fin cfg0.N) (d) : (dats m 0 c).before 4 t d = iblk m c 4 t :=
  before0_4_of m (dats m 0 c) (A_eq m c 4) (after_4 m c) t d
/-- Window 5's buffer holds its block before the body. -/
theorem before_5 (c : Dev nD) (t : Fin cfg0.N) (d) : (dats m 0 c).before 5 t d = iblk m c 5 t :=
  before0_5_of m (dats m 0 c) (A_eq m c 5) (after_5 m c) t d

/-- The body table's row at point `t` is the kernel's body on that point's buffers. -/
theorem defs₀_row (t : Fin cfg0.N) :
    defs₀ (F := F) .tc cfg0.body (cfg0.bodyArgs t (cfg0.slots t)) = bodyAt0 t := by
  unfold defs₀; rw [Defs.onTc_tc]

/-- The pipeline's body obligation, from `body_runs` at the point's buffers and the two scratch buffers. -/
theorem body_obligation (c : Dev nD) :
    BodyObligationLoose (dats (F := F) m 0 c) (defs₀ (F := F)) Variants.none () Set.univ forget := fun t => by
  rw [bigSep_W0, bigSep_W0, defs₀_row]
  simp only [show forget 0 = false from rfl, show forget 1 = false from rfl, show forget 2 = false from rfl,
    show forget 3 = true from rfl, show forget 4 = false from rfl, show forget 5 = false from rfl, show forget 6 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  unfold bodyAt0
  iintro ⟨⟨⟨⟨%z, Hz⟩, ⟨%mm, Hm⟩⟩, Hr⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_4 m c t d4, before_5 m c t d5]
  iapply (body_runs (F := F) c Set.univ (grid0.coords t) _ _ _ _ _ _ _ _ _ _ _ _ _ _ _ _ _ _ (iblk m c 0 t) (iblk m c 1 t) (iblk m c 2 t) d3 (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hz]; · iexists z; rw [owns_whole]; iexact Hz
  isplitl [Hm]; · iexists mm; rw [owns_whole]; iexact Hm
  iintro ⟨H0, H1, H2, H3, H4, H5, H6, ⟨%z', Hz⟩, ⟨%m', Hm⟩⟩
  isplitl [Hz Hm Hr]
  · isplitl [Hz Hm]
    · isplitl [Hz]
      · iexists z'; rw [← owns_whole (c : Thread nD τ) cc0_scratch0 fullShare z']; iexact Hz
      · iexists m'; rw [← owns_whole (c : Thread nD τ) cc0_scratch1 fullShare m']; iexact Hm
    · iexact Hr
  isplitl [Ho]; · iexact Ho
  rw [after_0, after_1, after_2, after_4, after_5]
  isplitl [H0]; · iexact H0
  isplitl [H1]; · iexact H1
  isplitl [H2]; · iexact H2
  isplitl [H3]; · iexists d3; iexact H3
  isplitl [H4]; · iexact H4
  isplitl [H5]; · iexact H5
  iexact H6

-- the launch theorem's implicit arguments are found by unifying its conclusion with this one
set_option backward.isDefEq.respectTransparency.types false in
set_option maxHeartbeats 800000 in
/-- The program runs to an end with its argument arrays unchanged and every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget cfgs (dats m) (0 : Fin 1) launch0 defs₀ Variants.none forget m ρ main
    (hbody := fun c => body_obligation m c)
    (hshare := fun c => (dats m 0 c).share_full fun _ => rfl) (howed := fun _ _ => rfl)
    (V := V m) (hmain := hmain m Variants.none) (hA := A_eq m) (hΦ := fun _ _ => rfl)
    (Q' := _)
    (hQ' := fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.KernelIdeal.Run

end
-- ==== Proof.Frames.lean ====
module

public import proofs.«01_k».proof.Defs
public import proofs.«01_k».proof.Proof.KernelRun
public import proofs.«01_k».proof.Proof.KernelIdealRun
public import proofs.«01_k».proof.Proof.Gen.Reference.Frame
public import proofs.«01_k».proof.Proof.Gen.ReferenceIdeal.Frame

/-! The frame claims of the four programs and the two claims that an idealized program's named constant is the printed
program's literal. -/

@[expose] public section

noncomputable section

namespace Cert.Proof.Frames

open Idealize.ShloMosaic

/-- The kernel runs to its end, arguments unchanged, semaphores at zero. -/
theorem kernel : Cert.quiescent_Kernel (hKernel := Cert.Kernel.Gen.facts) := fun m ρ _ => Cert.Kernel.Run.quiescent m ρ

/-- So does the idealized kernel. -/
theorem kernelIdeal : Cert.quiescent_KernelIdeal (hKernelIdeal := Cert.KernelIdeal.Gen.facts) :=
  fun m ρ _ => Cert.KernelIdeal.Run.quiescent (F := Ideal) m ρ

/-- So does the idealized reference. -/
theorem referenceIdeal : Cert.quiescent_ReferenceIdeal (hReferenceIdeal := Cert.ReferenceIdeal.Gen.facts) :=
  fun m ρ _ => Cert.ReferenceIdeal.Gen.frame (F := Ideal) m ρ

/-- So does the reference. -/
theorem reference : Cert.quiescent_Reference (hReference := Cert.Reference.Gen.facts) := fun m ρ _ => Cert.Reference.Gen.frame m ρ

/-- The kernel's folded scale constant is the number its name stands for, in the printed format. -/
theorem preservesKernel : Cert.preserves_Kernel_KernelIdeal := IdealRules.named_const.statement _ _ _ _ _ rfl

/-- The reference's scale constant is the number its name stands for, in the printed format. -/
theorem preservesReference : Cert.preserves_Reference_ReferenceIdeal := IdealRules.named_const.statement _ _ _ _ _ rfl

end Cert.Proof.Frames

end
-- ==== Proof.Steps.lean ====
module

public import proofs.«01_k».proof.KernelIdeal
public import Idealize.ShloMosaic.Lib.Pointwise

/-! What one chunk of the attention kernel's body adds to its running values, read entry by entry over the extended
reals: the softmax sums, the weighted sum of the values, the running maximum of the scores, and a block of scores. -/

@[expose] public section

set_option maxRecDepth 16384

noncomputable section

namespace Cert.KernelIdeal.Steps

open Cert.KernelIdeal
open Cert.KernelIdeal.Facts₀ Cert.KernelIdeal.Facts
open Idealize.ShloMosaic Finset

variable [Facts₀] [Facts]

/-- The rows of a score array, as extended reals, by row number and column. -/
abbrev Rows := ℕ → Fin 256 → EReal

/-- The exponentiated scores: row `r` against the offset row `r mod 8`. -/
def expRows (Z : Rows) (mo : FVec Ideal S8x256 .f32) : Rows := fun r c =>
  Ideal.exp2 (Z r c - mo (ix2 (⟨r % 8, Nat.mod_lt _ (by decide)⟩ : Fin 8) c))

/-- `z` holds the 256 rows of `Z` from row `o` on. -/
def IsChunk (Z : Rows) (o : ℕ) (z : Vec Ideal S256x256 .f32) : Prop := ∀ (r : Fin 256) (c : Fin 256), z (ix2 r c) = Z (o + r) c

/-- `z` holds the 120 rows of `Z` from row `o` on. -/
def IsTail (Z : Rows) (o : ℕ) (z : Vec Ideal S120x256 .f32) : Prop := ∀ (r : Fin 120) (c : Fin 256), z (ix2 r c) = Z (o + r) c

/-- The number the kernel's body folds into the key scales: `1 / (log 2 · sqrt 128)`. -/
def foldC : EReal := Named.named (F := Ideal) κ "log2e_inv_sqrt_d" (φ := .f32) 0x3E0293EE#32

/-- The scores in units of `log 2`: row `r` of the keys against column `c` of the queries, times both scales. -/
def scoreRows (K : ℕ → Fin 128 → EReal) (Q : Fin 256 → Fin 128 → EReal) (qs : Fin 256 → EReal) (ks : ℕ → EReal) : Rows := fun r c =>
  (∑ d : Fin 128, K r d * Q c d) * (qs c * (ks (r / 128) * foldC))

/-- `k` holds the 256 rows of `K` from row `o` on. -/
def IsK (K : ℕ → Fin 128 → EReal) (o : ℕ) (k : Vec Ideal S1x256x128 .fp8e4m3) : Prop :=
  ∀ (r : Fin 256) (d : Fin 128), k (ix3 0 r d) = K (o + r) d

/-- `k` holds the 128 rows of `K` from row `o` on. -/
def IsKTail (K : ℕ → Fin 128 → EReal) (o : ℕ) (k : Vec Ideal S1x128x128 .fp8e4m3) : Prop :=
  ∀ (r : Fin 128) (d : Fin 128), k (ix3 0 r d) = K (o + r) d

/-- `e` holds the 256 rows of `P` from row `o` on, eight rows to a group. -/
def IsE (P : Rows) (o : ℕ) (e : FVec Ideal S32x8x256 .f32) : Prop :=
  ∀ (a : Fin 32) (s : Fin 8) (c : Fin 256), e (ix3 a s c) = P (o + (8 * a + s)) c

/-- `e` holds the 120 rows of `P` from row `o` on, eight rows to a group. -/
def IsETail (P : Rows) (o : ℕ) (e : FVec Ideal S15x8x256 .f32) : Prop :=
  ∀ (a : Fin 15) (s : Fin 8) (c : Fin 256), e (ix3 a s c) = P (o + (8 * a + s)) c

/-- `l` holds, per residue of the row number mod 8, the sum of `P` over the first `n` groups of eight rows. -/
def IsL (P : Rows) (n : ℕ) (l : FVec Ideal S8x256 .f32) : Prop :=
  ∀ (s : Fin 8) (c : Fin 256), l (ix2 s c) = ∑ k ∈ range n, P (8 * k + s) c

/-- `a` holds the sum over the first `n` rows of `V` times `P`. -/
def IsAcc (V : Fin 128 → ℕ → EReal) (P : Rows) (n : ℕ) (a : FVec Ideal S128x256 .f32) : Prop :=
  ∀ (d : Fin 128) (c : Fin 256), a (ix2 d c) = ∑ r ∈ range n, V d r * P r c

/-- `v` holds the 256 columns of `V` from column `o` on. -/
def IsV (V : Fin 128 → ℕ → EReal) (o : ℕ) (v : Vec Ideal S1x128x256 .fp8e4m3) : Prop :=
  ∀ (d : Fin 128) (r : Fin 256), v (ix3 0 d r) = V d (o + r)

/-- `v` holds the 128 columns of `V` from column `o` on. -/
def IsVTail (V : Fin 128 → ℕ → EReal) (o : ℕ) (v : Vec Ideal S1x128x128 .fp8e4m3) : Prop :=
  ∀ (d : Fin 128) (r : Fin 128), v (ix3 0 d r) = V d (o + r)

/-- `m` is, per residue of the row number mod 8, the least upper bound of `S` over the first `n` groups of eight rows. -/
def IsM (S : Rows) (n : ℕ) (m : FVec Ideal S8x256 .f32) : Prop :=
  ∀ (s : Fin 8) (c : Fin 256) (x : EReal), m (ix2 s c) ≤ x ↔ ∀ k < n, S (8 * k + s) c ≤ x

/-- `z` holds the 128 rows of `S` from row `o` on. -/
def IsPiece (S : Rows) (o : ℕ) (z : FVec Ideal S128x256 .f32) : Prop := ∀ (r : Fin 128) (c : Fin 256), z (ix2 r c) = S (o + r) c

/-- `z` holds the 120 rows of `S` from row `o` on. -/
def IsPieceTail (S : Rows) (o : ℕ) (z : FVec Ideal S120x256 .f32) : Prop := ∀ (r : Fin 120) (c : Fin 256), z (ix2 r c) = S (o + r) c

/-- The exponentiated score of a row whose number is `s` modulo 8. -/
theorem expRows_apply (Z : Rows) (mo : FVec Ideal S8x256 .f32) (r : ℕ) (s : Fin 8) (c : Fin 256) (h : r % 8 = s) :
    expRows Z mo r c = Ideal.exp2 (Z r c - mo (ix2 s c)) := by
  have e : (⟨r % 8, Nat.mod_lt _ (by decide)⟩ : Fin 8) = s := Fin.ext h
  unfold expRows; rw [e]

/-- The word of minus infinity is the least extended real. -/
theorem negInf : Ideal.ofBits .f32 0xFF800000#32 = (⊥ : EReal) := by simp [Ideal.ofBits, Ideal.ieee]

/-- The exponentials of a chunk of 256 rows. -/
theorem isE_mk {Z : Rows} {o : ℕ} {z : Vec Ideal S256x256 .f32} {mo mo' : Vec Ideal S8x256 .f32} (ho : o % 8 = 0) (hmo : mo' = mo) (hz : IsChunk Z o z) :
    IsE (expRows Z mo) o (exp2 (subf (shapeCast S32x8x256 z shapeCasts_S256x256_S32x8x256 : FVec Ideal S32x8x256 .f32)
      (broadcastTo S32x8x256 (shapeCast S1x8x256 mo' shapeCasts_S8x256_S1x8x256 : FVec Ideal S1x8x256 .f32) broadcasts_S1x8x256_S32x8x256))) := by
  subst hmo
  intro a s c
  pointwise
  rw [expRows_apply _ _ _ s c (by omega), hz, Nat.mul_comm 8 (a : ℕ)]; rfl

/-- The exponentials of the last chunk's 120 rows. -/
theorem isETail_mk {Z : Rows} {o : ℕ} {z : Vec Ideal S120x256 .f32} {mo mo' : Vec Ideal S8x256 .f32} (ho : o % 8 = 0) (hmo : mo' = mo) (hz : IsTail Z o z) :
    IsETail (expRows Z mo) o (exp2 (subf (shapeCast S15x8x256 z shapeCasts_S120x256_S15x8x256 : FVec Ideal S15x8x256 .f32)
      (broadcastTo S15x8x256 (shapeCast S1x8x256 mo' shapeCasts_S8x256_S1x8x256 : FVec Ideal S1x8x256 .f32) broadcasts_S1x8x256_S15x8x256))) := by
  subst hmo
  intro a s c
  pointwise
  rw [expRows_apply _ _ _ s c (by omega), hz, Nat.mul_comm 8 (a : ℕ)]; rfl

/-- The softmax sums start at zero. -/
theorem isL_zero (P : Rows) : IsL P 0 (broadcast S8x256 (Scalar.ofBits .f32 0x00000000#32)) := by
  intro s c
  pointwise
  simp

/-- One chunk's 32 groups added to the softmax sums. -/
theorem isL_step {P : Rows} {n : ℕ} {l : FVec Ideal S8x256 .f32} {e : FVec Ideal S32x8x256 .f32} (hl : IsL P n l) (he : IsE P (8 * n) e) :
    IsL P (n + 32) (addf l (multiReduction .add [0] S8x256 e 0x00000000#32 reduces_S32x8x256_S8x256 (.inl rfl) rfl)) := by
  intro s c
  pointwise
  rw [hl, sum_range_add, Finset.sum_range (n := 32)]
  refine congrArg _ (Finset.sum_congr rfl fun x _ => ?_)
  rw [he]; congr 1; omega

/-- The last chunk's 15 groups added to the softmax sums. -/
theorem isL_tail {P : Rows} {n : ℕ} {l : FVec Ideal S8x256 .f32} {e : FVec Ideal S15x8x256 .f32} (hl : IsL P n l) (he : IsETail P (8 * n) e) :
    IsL P (n + 15) (addf l (multiReduction .add [0] S8x256 e 0x00000000#32 reduces_S15x8x256_S8x256 (.inl rfl) rfl)) := by
  intro s c
  pointwise
  rw [hl, sum_range_add, Finset.sum_range (n := 15)]
  refine congrArg _ (Finset.sum_congr rfl fun x _ => ?_)
  rw [he]; congr 1; omega

/-- The weighted sum of the values starts at zero. -/
theorem isAcc_zero (V : Fin 128 → ℕ → EReal) (P : Rows) : IsAcc V P 0 (broadcast S128x256 (Scalar.ofBits .f32 0x00000000#32)) := by
  intro s c
  pointwise
  simp

/-- One chunk's 256 rows added to the weighted sum of the values. -/
theorem isAcc_step {V : Fin 128 → ℕ → EReal} {P : Rows} {n : ℕ} {a : FVec Ideal S128x256 .f32} {e : FVec Ideal S32x8x256 .f32} {v : Vec Ideal S1x128x256 .fp8e4m3}
    (ha : IsAcc V P n a) (he : IsE P n e) (hv : IsV V n v) :
    IsAcc V P (n + 256) (addf a (matmul dot_S128x256_S256x256_S128x256_1_0_0_1_n_n none
      (shapeCast S128x256 v shapeCasts_S1x128x256_S128x256 : FVec Ideal S128x256 .fp8e4m3)
      (truncf .fp8e4m3 (shapeCast S256x256 e shapeCasts_S32x8x256_S256x256 : FVec Ideal S256x256 .f32) bitsLt_fp8e4m3_f32)
      (constant S128x256 .f32 0x00000000#32))) := by
  intro d c
  pointwise
  rw [ha, sum_range_add, Finset.sum_range (n := 256)]
  refine congrArg _ (Finset.sum_congr rfl fun x _ => ?_)
  rw [he, hv]; congr 2; exact congrArg (n + ·) (Nat.div_add_mod _ _)

/-- The last chunk's 120 rows added to the weighted sum of the values; its eight rows of padding add nothing. -/
theorem isAcc_tail {V : Fin 128 → ℕ → EReal} {P : Rows} {n : ℕ} {a : FVec Ideal S128x256 .f32} {e : FVec Ideal S15x8x256 .f32} {v : Vec Ideal S1x128x128 .fp8e4m3}
    (ha : IsAcc V P n a) (he : IsETail P n e) (hv : IsVTail V n v) :
    IsAcc V P (n + 120) (addf a (matmul dot_S128x128_S128x256_S128x256_1_0_0_1_n_n none
      (shapeCast S128x128 v shapeCasts_S1x128x128_S128x128 : FVec Ideal S128x128 .fp8e4m3)
      (truncf .fp8e4m3 (concatenate S128x256 0 [⟨S120x256, (shapeCast S120x256 e shapeCasts_S15x8x256_S120x256 : FVec Ideal S120x256 .f32)⟩,
        ⟨S8x256, broadcast S8x256 (Scalar.ofBits .f32 0x00000000#32 : Ideal .f32)⟩] concatenates_S120x256_S8x256_S128x256_d0) bitsLt_fp8e4m3_f32)
      (constant S128x256 .f32 0x00000000#32))) := by
  intro d c
  pointwise
  rw [ha, sum_range_add, Finset.sum_range (n := 120)]
  simp only [mul_zero, Finset.sum_const_zero, add_zero]
  refine congrArg _ (Finset.sum_congr rfl fun x _ => ?_)
  rw [he, hv]; congr 2; exact congrArg (n + ·) (Nat.div_add_mod _ _)

/-- The running maximum starts at minus infinity. -/
theorem isM_zero (S : Rows) : IsM S 0 (broadcast S8x256 (Scalar.ofBits .f32 0xFF800000#32)) := by
  intro s c x
  pointwise
  rw [negInf]; simp

/-- A bound over `n + k` groups is a bound over the first `n` and one over the `k` that follow. -/
theorem forall_lt_add {p : ℕ → Prop} (n k : ℕ) : (∀ i < n + k, p i) ↔ (∀ i < n, p i) ∧ ∀ i : Fin k, p (n + i) := by
  constructor
  · exact fun h => ⟨fun i hi => h i (by omega), fun i => h _ (by omega)⟩
  · rintro ⟨h, h'⟩ i hi
    by_cases hin : i < n
    · exact h i hin
    · have := h' ⟨i - n, by omega⟩
      rwa [show n + ((⟨i - n, by omega⟩ : Fin k) : ℕ) = i from by show n + (i - n) = i; omega] at this

/-- One block of 128 rows taken into the running maximum. -/
theorem isM_step {S : Rows} {n : ℕ} {m : FVec Ideal S8x256 .f32} {z : FVec Ideal S128x256 .f32} (hm : IsM S n m) (hz : IsPiece S (8 * n) z) :
    IsM S (n + 16) (maximumf m (multiReduction .maximumf [0] S8x256 (shapeCast S16x8x256 z shapeCasts_S128x256_S16x8x256 : FVec Ideal S16x8x256 .f32)
      0xFF800000#32 reduces_S16x8x256_S8x256 (.inl rfl) rfl)) := by
  intro s c x
  pointwise
  rw [max_le_iff, hm, Finset.fold_max_le, negInf, forall_lt_add]
  simp only [bot_le, true_and, Finset.mem_univ, forall_const]
  refine and_congr Iff.rfl (forall_congr' fun a => ?_)
  rw [hz, show 8 * n + (a.val * 8 + s.val) = 8 * (n + a) + s from by omega]

/-- The last block's 120 rows taken into the running maximum. -/
theorem isM_tail {S : Rows} {n : ℕ} {m : FVec Ideal S8x256 .f32} {z : FVec Ideal S120x256 .f32} (hm : IsM S n m) (hz : IsPieceTail S (8 * n) z) :
    IsM S (n + 15) (maximumf m (multiReduction .maximumf [0] S8x256 (shapeCast S15x8x256 z shapeCasts_S120x256_S15x8x256 : FVec Ideal S15x8x256 .f32)
      0xFF800000#32 reduces_S15x8x256_S8x256 (.inl rfl) rfl)) := by
  intro s c x
  pointwise
  rw [max_le_iff, hm, Finset.fold_max_le, negInf, forall_lt_add]
  simp only [bot_le, true_and, Finset.mem_univ, forall_const]
  refine and_congr Iff.rfl (forall_congr' fun a => ?_)
  rw [hz, show 8 * n + (a.val * 8 + s.val) = 8 * (n + a) + s from by omega]

variable {K : ℕ → Fin 128 → EReal} {Q : Fin 256 → Fin 128 → EReal} {qs : Fin 256 → EReal} {ks : ℕ → EReal} {o : ℕ}
  {k : Vec Ideal S1x256x128 .fp8e4m3} {q : Vec Ideal S1x256x128 .fp8e4m3} {kt : Vec Ideal S1x128x128 .fp8e4m3}
  {qv : FVec Ideal S1x256 .f32} {x : Ideal .f32}

/-- The first 128 rows of a chunk's scores. -/
theorem isPiece_lo (ho : o % 128 = 0) (hk : IsK K o k) (hq : ∀ c d, q (ix3 0 c d) = Q c d) (hqs : ∀ c, qv (ix2 0 c) = qs c) (hx : x = ks (o / 128)) :
    IsPiece (scoreRows K Q qs ks) o (mulf (extractStridedSlice S128x256 ![0, 0] (matmul dot_S256x128_S256x128_S256x256_1_1_0_0_n_n none
        (shapeCast S256x128 k shapeCasts_S1x256x128_S256x128 : FVec Ideal S256x128 .fp8e4m3)
        (shapeCast S256x128 q shapeCasts_S1x256x128_S256x128 : FVec Ideal S256x128 .fp8e4m3)
        (constant S256x256 .f32 0x00000000#32)) slices_S256x256_o0_0_S128x256)
      (broadcastTo S128x256 (mulf qv (broadcast S1x256 (Scalar.mulf x (Named.named κ "log2e_inv_sqrt_d" 0x3E0293EE#32)))) broadcasts_S1x256_S128x256)) := by
  intro r c
  unfold scoreRows
  pointwise
  rw [show (o + (r : ℕ)) / 128 = o / 128 from by omega, hqs, hx]
  refine congrArg₂ _ (Finset.sum_congr rfl fun d _ => ?_) rfl
  rw [hk, hq]

/-- The second 128 rows of a chunk's scores. -/
theorem isPiece_hi (ho : o % 128 = 0) (hk : IsK K o k) (hq : ∀ c d, q (ix3 0 c d) = Q c d) (hqs : ∀ c, qv (ix2 0 c) = qs c) (hx : x = ks (o / 128 + 1)) :
    IsPiece (scoreRows K Q qs ks) (o + 128) (mulf (extractStridedSlice S128x256 ![128, 0] (matmul dot_S256x128_S256x128_S256x256_1_1_0_0_n_n none
        (shapeCast S256x128 k shapeCasts_S1x256x128_S256x128 : FVec Ideal S256x128 .fp8e4m3)
        (shapeCast S256x128 q shapeCasts_S1x256x128_S256x128 : FVec Ideal S256x128 .fp8e4m3)
        (constant S256x256 .f32 0x00000000#32)) slices_S256x256_o128_0_S128x256)
      (broadcastTo S128x256 (mulf qv (broadcast S1x256 (Scalar.mulf x (Named.named κ "log2e_inv_sqrt_d" 0x3E0293EE#32)))) broadcasts_S1x256_S128x256)) := by
  intro r c
  unfold scoreRows
  pointwise
  rw [show (o + 128 + (r : ℕ)) / 128 = o / 128 + 1 from by omega, hqs, hx]
  refine congrArg₂ _ (Finset.sum_congr rfl fun d _ => ?_) rfl
  rw [hk, hq, Nat.add_assoc]

/-- The last 120 rows of the scores. -/
theorem isPiece_tail (ho : o % 128 = 0) (hk : IsKTail K o kt) (hq : ∀ c d, q (ix3 0 c d) = Q c d) (hqs : ∀ c, qv (ix2 0 c) = qs c) (hx : x = ks (o / 128)) :
    IsPieceTail (scoreRows K Q qs ks) o (mulf (extractStridedSlice S120x256 ![0, 0] (matmul dot_S128x128_S256x128_S128x256_1_1_0_0_n_n none
        (shapeCast S128x128 kt shapeCasts_S1x128x128_S128x128 : FVec Ideal S128x128 .fp8e4m3)
        (shapeCast S256x128 q shapeCasts_S1x256x128_S256x128 : FVec Ideal S256x128 .fp8e4m3)
        (constant S128x256 .f32 0x00000000#32)) slices_S128x256_o0_0_S120x256)
      (broadcastTo S120x256 (mulf qv (broadcast S1x256 (Scalar.mulf x (Named.named κ "log2e_inv_sqrt_d" 0x3E0293EE#32)))) broadcasts_S1x256_S120x256)) := by
  intro r c
  unfold scoreRows
  pointwise
  rw [show (o + (r : ℕ)) / 128 = o / 128 from by omega, hqs, hx]
  refine congrArg₂ _ (Finset.sum_congr rfl fun d _ => ?_) rfl
  rw [hk, hq]

/-- The sum over the first `8 n` rows, row by row, is the sum over the residues mod 8 of the sums over the groups. -/
theorem sum_groups (f : ℕ → EReal) (n : ℕ) : ∑ s : Fin 8, ∑ k ∈ range n, f (8 * k + s) = ∑ r ∈ range (8 * n), f r := by
  rw [Finset.sum_comm]
  induction n with
  | zero => simp
  | succ n ih => rw [Finset.sum_range_succ, ih, Nat.mul_succ, sum_range_add, Finset.sum_range (n := 8)]

/-- The output block: the weighted sum of the values times the value scale over the softmax sum. -/
theorem out_apply {V : Fin 128 → ℕ → EReal} {P : Rows} {l : FVec Ideal S8x256 .f32} {a : FVec Ideal S128x256 .f32} {y : Ideal .f32}
    (hl : IsL P 975 l) (ha : IsAcc V P 7800 a) (c : Fin 256) (d : Fin 128) :
    (shapeCast S1x256x128 (truncf .bf16 (transpose S256x128 [1, 0] (mulf a (broadcastTo S128x256 (divf (broadcast S1x256 y)
      (shapeCast S1x256 (multiReduction .add [0] S256 l 0x00000000#32 reduces_S8x256_S256 (.inl rfl) rfl : FVec Ideal S256 .f32) shapeCasts_S256_S1x256 : FVec Ideal S1x256 .f32))
        broadcasts_S1x256_S128x256)) transposes_S128x256_p1_0_S256x128) bitsLt_bf16_f32 : FVec Ideal S256x128 .bf16) shapeCasts_S256x128_S1x256x128 : FVec Ideal S1x256x128 .bf16) (ix3 0 c d)
      = (∑ r ∈ range 7800, V d r * P r c) * Ideal.div y (∑ r ∈ range 7800, P r c) := by
  pointwise
  rw [ha, ← sum_groups (fun r => P r c) 975]
  simp only [hl _ _]

/-- The number whose word the kernel subtracts from the maximum: the base-two logarithm of 256. -/
theorem ofBits_eight : Ideal.ofBits .f32 0x41000000#32 = ((8 : ℝ) : EReal) := by
  simp [Ideal.ofBits, Ideal.ieee, -EReal.coe_mul]; norm_num

/-- The stored maximum: the same in all eight rows, the least upper bound of the scores less 8. -/
theorem max_apply {S : Rows} {m : FVec Ideal S8x256 .f32} (hm : IsM S 975 m) (M : Fin 256 → EReal) (hM : ∀ c x, M c ≤ x ↔ ∀ r < 7800, S r c ≤ x)
    (s : Fin 8) (c : Fin 256) :
    (shapeCast S8x256 (broadcastTo S8x256 (shapeCast S1x256 (subf (shapeCast S1x256 (multiReduction .maximumf [0] S256 m 0xFF800000#32 reduces_S8x256_S256 (.inl rfl) rfl : FVec Ideal S256 .f32) shapeCasts_S256_S1x256 : FVec Ideal S1x256 .f32)
      (broadcast S1x256 (Scalar.ofBits .f32 0x41000000#32))) shapeCasts_S1x256_S1x256 : FVec Ideal S1x256 .f32) broadcasts_S1x256_S8x256) shapeCasts_S8x256_S8x256 : FVec Ideal S8x256 .f32) (ix2 s c)
      = M c - ((8 : ℝ) : EReal) := by
  pointwise
  rw [ofBits_eight]
  congr 1
  refine eq_of_forall_ge_iff fun x => ?_
  rw [hM, Finset.fold_max_le, negInf]
  simp only [bot_le, true_and, Finset.mem_univ, forall_const, hm _ _ _]
  constructor
  · intro h r hr
    have := h ⟨r % 8, by omega⟩ (r / 8) (by omega)
    rwa [show 8 * (r / 8) + ((⟨r % 8, by omega⟩ : Fin 8) : ℕ) = r from Nat.div_add_mod r 8] at this
  · exact fun h a k hk => h _ (by omega)

end Cert.KernelIdeal.Steps

end
-- ==== Proof.Equation.lean ====
module

public import proofs.«01_k».proof.Proof.Steps

/-! The equation between the two programs' results over the extended reals. With `z r` the reference's scores of one
query, the kernel holds `a * z r`, `a = 1 / log 2`, and exponentiates to base two against the maximum less 8: that is 256
times the reference's `exp (z r - max)`, for every extended real score. -/

@[expose] public section

noncomputable section

namespace Cert.Equation

open Idealize.ShloMosaic Finset

/-- `1 / log 2`. -/
def log2e : ℝ := (Real.log 2)⁻¹

/-- `1 / log 2` is positive. -/
theorem log2e_pos : 0 < log2e := inv_pos.mpr (Real.log_pos (by norm_num))

/-- Base-two exponentials of scaled differences are exponentials of differences. -/
theorem exp2_real (x y : ℝ) : (2 : ℝ) ^ (log2e * x - (log2e * y - 8)) = 256 * Real.exp (x - y) := by
  have h2 : Real.log 2 ≠ 0 := (Real.log_pos (by norm_num)).ne'
  have e : log2e * x - (log2e * y - 8) = log2e * (x - y) + (8 : ℕ) := by push_cast; ring
  rw [e, Real.rpow_add (by norm_num), Real.rpow_natCast, Real.rpow_def_of_pos (by norm_num), log2e, ← mul_assoc, mul_inv_cancel₀ h2, one_mul]
  norm_num; ring

/-- The same over the extended reals, whatever the score and the maximum. -/
theorem exp2_eq (x y : EReal) : Ideal.exp2 ((log2e : EReal) * x - ((log2e : EReal) * y - ((8 : ℝ) : EReal))) = ((256 : ℝ) : EReal) * Ideal.exp (x - y) := by
  have hp := log2e_pos
  have h256 : (0 : ℝ) < 256 := by norm_num
  have e0 : Ideal.exp ⊥ = 0 := rfl
  have e1 : Ideal.exp ⊤ = ⊤ := rfl
  have e2 : Ideal.exp2 ⊥ = 0 := rfl
  have e3 : Ideal.exp2 ⊤ = ⊤ := rfl
  have s0 : (⊤ : EReal) - ⊤ = ⊥ := rfl
  have s1 : (⊥ : EReal) - ⊥ = ⊥ := rfl
  have s2 : ∀ r : ℝ, (r : EReal) - ⊤ = ⊥ := fun r => rfl
  have s3 : ∀ r : ℝ, (⊥ : EReal) - r = ⊥ := fun r => rfl
  have s4 : ∀ r : ℝ, (r : EReal) - ⊥ = ⊤ := fun r => rfl
  have s5 : ∀ r : ℝ, (⊤ : EReal) - r = ⊤ := fun r => rfl
  have s6 : (⊤ : EReal) - ⊥ = ⊤ := rfl
  have s7 : (⊥ : EReal) - ⊤ = ⊥ := rfl
  induction x with
  | bot => induction y with
    | bot => rw [EReal.coe_mul_bot_of_pos hp, s3, s1, e0, e2, mul_zero]
    | coe y => rw [EReal.coe_mul_bot_of_pos hp, ← EReal.coe_mul, ← EReal.coe_sub, s3, s3, e0, e2, mul_zero]
    | top => rw [EReal.coe_mul_bot_of_pos hp, EReal.coe_mul_top_of_pos hp, s5, s7, e0, e2, mul_zero]
  | coe x => induction y with
    | bot => rw [EReal.coe_mul_bot_of_pos hp, ← EReal.coe_mul, s3, s4, s4, e1, e3, EReal.coe_mul_top_of_pos h256]
    | coe y =>
      rw [← EReal.coe_mul, ← EReal.coe_mul, ← EReal.coe_sub, ← EReal.coe_sub, ← EReal.coe_sub]
      exact (congrArg (fun r : ℝ => (r : EReal)) (exp2_real x y)).trans (EReal.coe_mul _ _)
    | top => rw [EReal.coe_mul_top_of_pos hp, ← EReal.coe_mul, s5, s2, s2, e0, e2, mul_zero]
  | top => induction y with
    | bot => rw [EReal.coe_mul_bot_of_pos hp, EReal.coe_mul_top_of_pos hp, s3, s6, e1, e3, EReal.coe_mul_top_of_pos h256]
    | coe y => rw [EReal.coe_mul_top_of_pos hp, ← EReal.coe_mul, ← EReal.coe_sub, s5, s5, e1, e3, EReal.coe_mul_top_of_pos h256]
    | top => rw [EReal.coe_mul_top_of_pos hp, s5, s0, e0, e2, mul_zero]

/-- The exponential of a score against its maximum is a real number between 0 and 1. -/
theorem exp_le (x y : EReal) (h : x ≤ y) : ∃ p : ℝ, Ideal.exp (x - y) = p ∧ 0 ≤ p ∧ p ≤ 1 := by
  have hb : ∃ p : ℝ, Ideal.exp ⊥ = p ∧ 0 ≤ p ∧ p ≤ 1 := ⟨0, rfl, le_refl _, zero_le_one⟩
  induction x with
  | bot => rw [EReal.bot_sub]; exact hb
  | coe x => induction y with
    | bot => exact absurd h (by simp)
    | coe y =>
      rw [← EReal.coe_sub]
      exact ⟨Real.exp (x - y), rfl, (Real.exp_pos _).le, Real.exp_le_one_iff.mpr (sub_nonpos.mpr (EReal.coe_le_coe_iff.mp h))⟩
    | top => exact hb
  | top => rw [top_le_iff.mp h]; exact hb

/-- A scaled family's maximum is the maximum scaled. -/
theorem iSup_scaled {ι : Type} [Finite ι] [Nonempty ι] (z : ι → EReal) : ⨆ r, (log2e : EReal) * z r = (log2e : EReal) * ⨆ r, z r := by
  have hp : (0 : EReal) ≤ (log2e : EReal) := EReal.coe_nonneg.mpr log2e_pos.le
  obtain ⟨i, hi⟩ := exists_eq_ciSup_of_finite (f := z)
  refine le_antisymm (iSup_le fun r => mul_le_mul_of_nonneg_left (le_iSup z r) hp) ?_
  rw [← hi]; exact le_iSup (fun r => (log2e : EReal) * z r) i

/-- Dividing by 256 and then by a sum is dividing by 256 times the sum, the sum zero or not. -/
theorem div_div (v : EReal) (l : EReal) : Ideal.div v (((256 : ℝ) : EReal) * l) = Ideal.div (Ideal.div v ((256 : ℝ) : EReal)) l := by
  have h256 : ((256 : ℝ) : EReal) ≠ 0 := by norm_num
  have hi : ((256 : ℝ) : EReal)⁻¹ = ((256⁻¹ : ℝ) : EReal) := (EReal.coe_inv _).symm
  have hd : Ideal.div v ((256 : ℝ) : EReal) = v * ((256⁻¹ : ℝ) : EReal) := by unfold Ideal.div; rw [if_neg h256, hi]
  have hpos : (0 : ℝ) < 256⁻¹ := by norm_num
  rw [hd]
  unfold Ideal.div
  by_cases hl : l = 0
  · have : 0 < v ↔ 0 < v * ((256⁻¹ : ℝ) : EReal) := by
      constructor
      · exact fun h => EReal.mul_pos h (EReal.coe_pos.mpr hpos)
      · intro h
        by_contra hv
        exact absurd h (not_lt.mpr (EReal.mul_nonpos_iff.mpr (.inr ⟨not_lt.mp hv, (EReal.coe_pos.mpr hpos).le⟩)))
    rw [hl, mul_zero, if_pos rfl, if_pos rfl]
    simp only [this]
  · rw [if_neg (by simp [h256, hl]), if_neg hl, EReal.mul_inv, hi, mul_assoc]

/-- The word of 256. -/
theorem ofBits_256 : Ideal.ofBits .f32 0x43800000#32 = ((256 : ℝ) : EReal) := by
  simp [Ideal.ofBits, Ideal.ieee, -EReal.coe_mul]; norm_num

/-- The word of 448. -/
theorem ofBits_448 : Ideal.ofBits .f32 0x43E00000#32 = ((448 : ℝ) : EReal) := by
  simp [Ideal.ofBits, Ideal.ieee, -EReal.coe_mul]; norm_num

/-- The word of 0. -/
theorem ofBits_0 : Ideal.ofBits .f32 0#32 = (0 : EReal) := by simp

/-- The reference's clip to 448 moves nothing. -/
theorem clip_eq (x y : EReal) (h : x ≤ y) :
    min (Ideal.ofBits .f32 0x43E00000#32) (max (Ideal.ofBits .f32 0#32) (Ideal.exp (x - y) * Ideal.ofBits .f32 0x43800000#32)) = ((256 : ℝ) : EReal) * Ideal.exp (x - y) := by
  obtain ⟨p, hp, h0, h1⟩ := exp_le x y h
  rw [hp, ofBits_256, ofBits_448, ofBits_0, mul_comm, ← EReal.coe_mul]
  rw [max_eq_right (by rw [← EReal.coe_zero]; exact EReal.coe_le_coe_iff.mpr (by positivity)), min_eq_right (EReal.coe_le_coe_iff.mpr (by linarith))]

/-- An exponential is not negative. -/
theorem exp_nonneg (x : EReal) : 0 ≤ Ideal.exp x := by
  induction x with
  | bot => exact le_refl _
  | coe x => exact EReal.coe_nonneg.mpr (Real.exp_pos x).le
  | top => exact le_top

/-- A sum of nonnegative terms scaled by 256. -/
theorem sum_scaled {ι : Type} (s : Finset ι) (p : ι → EReal) (h : ∀ i, 0 ≤ p i) : ∑ i ∈ s, ((256 : ℝ) : EReal) * p i = ((256 : ℝ) : EReal) * ∑ i ∈ s, p i := by
  classical
  induction s using Finset.induction_on with
  | empty => simp
  | insert a s ha ih =>
    rw [Finset.sum_insert ha, Finset.sum_insert ha, ih, EReal.left_distrib_of_nonneg (h a) (Finset.sum_nonneg fun i _ => h i)]

/-- The two results at one query and one channel, from the scores `z`, the values `v` and the value scale `vs`. -/
theorem attention_eq (z v : Fin 7800 → EReal) (vs : EReal) :
    (∑ r, v r * Ideal.exp2 ((log2e : EReal) * z r - ((⨆ s, (log2e : EReal) * z s) - ((8 : ℝ) : EReal))))
        * Ideal.div vs (∑ r, Ideal.exp2 ((log2e : EReal) * z r - ((⨆ s, (log2e : EReal) * z s) - ((8 : ℝ) : EReal))))
      = (∑ r, min (Ideal.ofBits .f32 0x43E00000#32) (max (Ideal.ofBits .f32 0#32) (Ideal.exp (z r - ⨆ s, z s) * Ideal.ofBits .f32 0x43800000#32)) * v r)
        * Ideal.div (Ideal.div vs (Ideal.ofBits .f32 0x43800000#32)) (∑ r, Ideal.exp (z r - ⨆ s, z s)) := by
  rw [iSup_scaled]
  simp only [exp2_eq, fun r => clip_eq (z r) (⨆ s, z s) (le_iSup z r), fun r => mul_comm (v r)]
  rw [sum_scaled _ _ fun r => exp_nonneg _, ofBits_256, div_div]

end Cert.Equation

end
-- ==== Proof.Attention.lean ====
module

public import proofs.«01_k».proof.Proof.Equation
public import Idealize.ShloMosaic.Lib.Pointwise
public import Idealize.ShloMosaic.Lib.ValueIdx

/-! Attention of codes and scales over the extended reals, as the reference writes it and as the kernel does, and that the
two are equal. -/

@[expose] public section

set_option maxRecDepth 16384

noncomputable section

namespace Cert.Attention

open Idealize.ShloMosaic Finset Cert.Equation

/-- The batch of a head of the flattened array, and its head of that batch. -/
abbrev batch (h : Fin 80) : Fin 2 := ⟨h.val / 40, by omega⟩
abbrev head (h : Fin 80) : Fin 40 := ⟨h.val % 40, by omega⟩

variable (q k : Vec Ideal ⟨4, ![2, 40, 7808, 128]⟩ .fp8e4m3) (v : Vec Ideal ⟨4, ![2, 40, 128, 7808]⟩ .fp8e4m3)
  (qs ks : Vec Ideal ⟨3, ![2, 61, 40]⟩ .f32) (vs : Vec Ideal ⟨2, ![2, 40]⟩ .f32)

/-- The reference's score of query `n` against key `r` of head `h`. -/
def score (h : Fin 80) (n r : Fin 7800) : EReal :=
  (∑ e : Fin 128, q (ix4 (batch h) (head h) ⟨n.val, by omega⟩ e) * k (ix4 (batch h) (head h) ⟨r.val, by omega⟩ e))
    * qs (ix3 (batch h) ⟨n.val / 128, by omega⟩ (head h)) * ks (ix3 (batch h) ⟨r.val / 128, by omega⟩ (head h)) * (((Real.sqrt 128)⁻¹ : ℝ) : EReal)

/-- The kernel's, in units of `log 2`. -/
def scaled (h : Fin 80) (n r : Fin 7800) : EReal :=
  (∑ e : Fin 128, k (ix4 (batch h) (head h) ⟨r.val, by omega⟩ e) * q (ix4 (batch h) (head h) ⟨n.val, by omega⟩ e))
    * (qs (ix3 (batch h) ⟨n.val / 128, by omega⟩ (head h))
      * (ks (ix3 (batch h) ⟨r.val / 128, by omega⟩ (head h)) * (((Real.log 2)⁻¹ * (Real.sqrt 128)⁻¹ : ℝ) : EReal)))

/-- The kernel's scores are the reference's times `1 / log 2`. -/
theorem scaled_eq (h : Fin 80) (n r : Fin 7800) : scaled q k qs ks h n r = (log2e : EReal) * score q k qs ks h n r := by
  unfold scaled score log2e
  rw [EReal.coe_mul, Finset.sum_congr rfl fun e _ => mul_comm (k _) (q _)]
  ac_rfl

/-- The values of head `h` at channel `d`. -/
def value (h : Fin 80) (d : Fin 128) (r : Fin 7800) : EReal := v (ix4 (batch h) (head h) d ⟨r.val, by omega⟩)

/-- The reference's result at a head, a query and a channel. -/
def reference (h : Fin 80) (n : Fin 7800) (d : Fin 128) : EReal :=
  (∑ r, min (Ideal.ofBits .f32 0x43E00000#32) (max (Ideal.ofBits .f32 0#32)
      (Ideal.exp (score q k qs ks h n r - ⨆ s, score q k qs ks h n s) * Ideal.ofBits .f32 0x43800000#32)) * value v h d r)
    * Ideal.div (Ideal.div (vs (ix2 (batch h) (head h))) (Ideal.ofBits .f32 0x43800000#32)) (∑ r, Ideal.exp (score q k qs ks h n r - ⨆ s, score q k qs ks h n s))

/-- The kernel's. -/
def kernel (h : Fin 80) (n : Fin 7800) (d : Fin 128) : EReal :=
  (∑ r, value v h d r * Ideal.exp2 (scaled q k qs ks h n r - ((⨆ s, scaled q k qs ks h n s) - ((8 : ℝ) : EReal))))
    * Ideal.div (vs (ix2 (batch h) (head h))) (∑ r, Ideal.exp2 (scaled q k qs ks h n r - ((⨆ s, scaled q k qs ks h n s) - ((8 : ℝ) : EReal))))

/-- They are equal. -/
theorem kernel_eq_reference (h : Fin 80) (n : Fin 7800) (d : Fin 128) : kernel q k v qs ks vs h n d = reference q k v qs ks vs h n d := by
  unfold kernel reference
  simp only [scaled_eq]
  exact attention_eq (score q k qs ks h n) (value v h d) _

/-- The kernel's value laid out in the result array. -/
def result (i : Shape.Idx ⟨3, ![2, 7800, 5120]⟩) : EReal :=
  kernel q k v qs ks vs ⟨(i 0).val * 40 + (i 2).val / 128, by have h0 : (i 0).val < 2 := (i 0).isLt; have h2 : (i 2).val < 5120 := (i 2).isLt; omega⟩ (i 1) ⟨(i 2).val % 128, Nat.mod_lt _ (by decide)⟩

end Cert.Attention

end
-- ==== Proof.Reads.lean ====
module

public import proofs.«01_k».proof.Proof.Steps
public import proofs.«01_k».proof.Proof.Gen.KernelIdeal
public import proofs.«01_k».proof.Proof.Gen.KernelIdeal.Frame
public import proofs.«01_k».proof.Proof.Gen.KernelIdeal.Loops
public import Idealize.ShloMosaic.Lib.VecWindow
public import Idealize.ShloMosaic.Lib.Writes

/-! What the body's loads read of its blocks and what its stores leave in its scratch, by row and column. -/

@[expose] public section

set_option maxRecDepth 16384

noncomputable section

namespace Cert.KernelIdeal.Steps

open Cert.KernelIdeal Cert.KernelIdeal.Gen
open Idealize.ShloMosaic Idealize.ShloMosaic.TcCoe Finset

/-- The rows of the score buffer. -/
def rowsOf (z : Vec Ideal S7808x256 .f32) : Rows := fun r c => if h : r < 7808 then z (ix2 ⟨r, h⟩ c) else 0

/-- The rows of the key block. -/
def keysOf (x : Vec Ideal S1x7808x128 .fp8e4m3) : ℕ → Fin 128 → EReal := fun r d => if h : r < 7808 then x (ix3 0 ⟨r, h⟩ d) else 0

/-- The columns of the transposed value block. -/
def valsOf (x : Vec Ideal S1x128x7808 .fp8e4m3) : Fin 128 → ℕ → EReal := fun d r => if h : r < 7808 then x (ix3 0 d ⟨r, h⟩) else 0

/-- The rows of the query block. -/
def queriesOf (x : Vec Ideal S1x256x128 .fp8e4m3) : Fin 256 → Fin 128 → EReal := fun c d => x (ix3 0 c d)

/-- The entries of a table of scales. -/
def scalesOf {n : ℕ} (x : Vec Ideal ⟨2, ![80, n]⟩ .f32) (b j : ℕ) : EReal := if h : b < 80 ∧ j < n then x (ix2 ⟨b, h.1⟩ ⟨j, h.2⟩) else 0

section Loads

variable {sp : Space}

/-- A chunk of 256 rows loaded from the score buffer. -/
theorem chunk_read (a : Memref sig .tc sp S7808x256 .f32) (f : a.view.ty.Contents (Elt Ideal)) {o : ℕ} {inb} {Z : Rows} (ho : o + 256 ≤ 7808)
    (hZ : rowsOf (a.view.read (Elt Ideal) f) = Z) :
    IsChunk Z o (a.view.readAt (Elt Ideal) (Rect.unit (s := S7808x256) ![o, 0] S256x256.size inb).toLoadRect f) := by
  subst hZ
  intro r c
  unfold rowsOf; rw [dif_pos (by omega)]
  refine congrArg (a.view.read (Elt Ideal) f) (funext fun k => Fin.ext ?_)
  show (![o, 0] : Fin 2 → ℕ) k + 1 * _ = _
  fin_cases k
  · show o + 1 * (r : ℕ) = o + r; omega
  · show 0 + 1 * (c : ℕ) = c; omega

/-- The last 120 rows loaded from the score buffer. -/
theorem tail_read (a : Memref sig .tc sp S7808x256 .f32) (f : a.view.ty.Contents (Elt Ideal)) {o : ℕ} {inb} {Z : Rows} (ho : o + 120 ≤ 7808)
    (hZ : rowsOf (a.view.read (Elt Ideal) f) = Z) :
    IsTail Z o (a.view.readAt (Elt Ideal) (Rect.unit (s := S7808x256) ![o, 0] S120x256.size inb).toLoadRect f) := by
  subst hZ
  intro r c
  unfold rowsOf; rw [dif_pos (by omega)]
  refine congrArg (a.view.read (Elt Ideal) f) (funext fun k => Fin.ext ?_)
  show (![o, 0] : Fin 2 → ℕ) k + 1 * _ = _
  fin_cases k
  · show o + 1 * (r : ℕ) = o + r; omega
  · show 0 + 1 * (c : ℕ) = c; omega

/-- A chunk of 256 keys loaded from the key block. -/
theorem key_read (a : Memref sig .tc sp S1x7808x128 .fp8e4m3) (f : a.view.ty.Contents (Elt Ideal)) {o : ℕ} {inb} (ho : o + 256 ≤ 7808) :
    IsK (keysOf (a.view.read (Elt Ideal) f)) o (a.view.readAt (Elt Ideal) (Rect.unit (s := S1x7808x128) ![0, o, 0] S1x256x128.size inb).toLoadRect f) := by
  intro r c
  unfold keysOf; rw [dif_pos (by omega)]
  refine congrArg (a.view.read (Elt Ideal) f) (funext fun k => Fin.ext ?_)
  show (![0, o, 0] : Fin 3 → ℕ) k + 1 * _ = _
  fin_cases k
  · rfl
  · show o + 1 * (r : ℕ) = o + r; omega
  · show 0 + 1 * (c : ℕ) = c; omega

/-- The last 128 keys loaded from the key block. -/
theorem keyTail_read (a : Memref sig .tc sp S1x7808x128 .fp8e4m3) (f : a.view.ty.Contents (Elt Ideal)) {o : ℕ} {inb} (ho : o + 128 ≤ 7808) :
    IsKTail (keysOf (a.view.read (Elt Ideal) f)) o (a.view.readAt (Elt Ideal) (Rect.unit (s := S1x7808x128) ![0, o, 0] S1x128x128.size inb).toLoadRect f) := by
  intro r c
  unfold keysOf; rw [dif_pos (by omega)]
  refine congrArg (a.view.read (Elt Ideal) f) (funext fun k => Fin.ext ?_)
  show (![0, o, 0] : Fin 3 → ℕ) k + 1 * _ = _
  fin_cases k
  · rfl
  · show o + 1 * (r : ℕ) = o + r; omega
  · show 0 + 1 * (c : ℕ) = c; omega

/-- A chunk of 256 values loaded from the value block. -/
theorem val_read (a : Memref sig .tc sp S1x128x7808 .fp8e4m3) (f : a.view.ty.Contents (Elt Ideal)) {o : ℕ} {inb} (ho : o + 256 ≤ 7808) :
    IsV (valsOf (a.view.read (Elt Ideal) f)) o (a.view.readAt (Elt Ideal) (Rect.unit (s := S1x128x7808) ![0, 0, o] S1x128x256.size inb).toLoadRect f) := by
  intro d r
  unfold valsOf; rw [dif_pos (by omega)]
  refine congrArg (a.view.read (Elt Ideal) f) (funext fun k => Fin.ext ?_)
  show (![0, 0, o] : Fin 3 → ℕ) k + 1 * _ = _
  fin_cases k
  · rfl
  · show 0 + 1 * (d : ℕ) = d; omega
  · show o + 1 * (r : ℕ) = o + r; omega

/-- The last 128 values loaded from the value block. -/
theorem valTail_read (a : Memref sig .tc sp S1x128x7808 .fp8e4m3) (f : a.view.ty.Contents (Elt Ideal)) {o : ℕ} {inb} (ho : o + 128 ≤ 7808) :
    IsVTail (valsOf (a.view.read (Elt Ideal) f)) o (a.view.readAt (Elt Ideal) (Rect.unit (s := S1x128x7808) ![0, 0, o] S1x128x128.size inb).toLoadRect f) := by
  intro d r
  unfold valsOf; rw [dif_pos (by omega)]
  refine congrArg (a.view.read (Elt Ideal) f) (funext fun k => Fin.ext ?_)
  show (![0, 0, o] : Fin 3 → ℕ) k + 1 * _ = _
  fin_cases k
  · rfl
  · show 0 + 1 * (d : ℕ) = d; omega
  · show o + 1 * (r : ℕ) = o + r; omega

/-- The query block loaded whole. -/
theorem query_read (a : Memref sig .tc sp S1x256x128 .fp8e4m3) (f : a.view.ty.Contents (Elt Ideal)) {inb} (c : Fin 256) (d : Fin 128) :
    a.view.readAt (Elt Ideal) (Rect.unit (s := S1x256x128) ![0, 0, 0] S1x256x128.size inb).toLoadRect f (ix3 0 c d) = queriesOf (a.view.read (Elt Ideal) f) c d :=
  congrFun (View.readAt_full a.view f inb) _

/-- One entry loaded from a table of scales. -/
theorem scale_read {n : ℕ} (a : Memref sig .tc sp ⟨2, ![80, n]⟩ .f32) (f : a.view.ty.Contents (Elt Ideal)) (off : Fin 2 → ℕ)
    {inb : ∀ a, off a + S1x1.size a ≤ (⟨2, ![80, n]⟩ : Shape).size a} {h} {b j : ℕ} (h0 : off 0 = b) (h1 : off 1 = j) :
    a.view.readAt (Elt Ideal) (Rect.unit (s := ⟨2, ![80, n]⟩) off S1x1.size inb).toLoadRect f (Shape.Idx.first h) = scalesOf (a.view.read (Elt Ideal) f) b j := by
  have hb : b < 80 := by have := inb 0; rw [h0] at this; exact this
  have hj : j < n := by have := inb 1; rw [h1] at this; exact this
  unfold scalesOf; rw [dif_pos ⟨hb, hj⟩]
  refine congrArg (a.view.read (Elt Ideal) f) (funext fun k => Fin.ext ?_)
  show off k + 1 * 0 = _
  fin_cases k
  · show off 0 + 0 = b; omega
  · show off 1 + 0 = j; omega

end Loads

/-- The score buffer after a block of 128 rows is stored at row `o`: those rows are the block's, the rows below are as before. -/
theorem rows_step {sp : Space} (a : Memref sig .tc sp S7808x256 .f32) (f : a.view.ty.Contents (Elt Ideal)) {S : Rows} {o : ℕ} {inb} {w : FVec Ideal S128x256 .f32}
    {L : List (View.Piece (Elt Ideal) S7808x256 .f32)} {r : ℕ} {c : Fin 256} (hr : r < o + 128) (ho : o + 128 ≤ 7808) (hw : IsPiece S o w)
    (hL : r < o → rowsOf (a.view.read (Elt Ideal) (a.view.writes (Elt Ideal) f L)) r c = S r c) :
    rowsOf (a.view.read (Elt Ideal) (a.view.writes (Elt Ideal) f (⟨Rect.unit (s := S7808x256) ![o, 0] ![128, 256] inb, w⟩ :: L))) r c = S r c := by
  by_cases h : r < o
  · rw [← hL h]
    unfold rowsOf; rw [dif_pos (by omega), dif_pos (by omega)]
    exact View.read_writes_cons_miss_of_axis a.view f _ L _ (0 : Fin 2) o 128 rfl rfl rfl (Or.inl h)
  · unfold rowsOf; rw [dif_pos (by omega)]
    refine (View.read_writes_cons_unit_of_mem a.view f inb w L _ (ix2 (⟨r - o, by omega⟩ : Fin 128) c) rfl fun k => ?_).trans ?_
    · fin_cases k
      · show r = o + (r - o); omega
      · show c.val = 0 + c.val; omega
    · refine (hw _ c).trans ?_
      rw [show o + ((⟨r - o, by omega⟩ : Fin 128) : ℕ) = r from by show o + (r - o) = r; omega]

/-- The score buffer after the last block of 120 rows is stored at row `o`: those rows are the block's, the rows below are as before. -/
theorem rowsTail_step {sp : Space} (a : Memref sig .tc sp S7808x256 .f32) (f : a.view.ty.Contents (Elt Ideal)) {S : Rows} {o : ℕ} {inb} {w : FVec Ideal S120x256 .f32}
    {L : List (View.Piece (Elt Ideal) S7808x256 .f32)} {r : ℕ} {c : Fin 256} (hr : r < o + 120) (ho : o + 120 ≤ 7808) (hw : IsPieceTail S o w)
    (hL : r < o → rowsOf (a.view.read (Elt Ideal) (a.view.writes (Elt Ideal) f L)) r c = S r c) :
    rowsOf (a.view.read (Elt Ideal) (a.view.writes (Elt Ideal) f (⟨Rect.unit (s := S7808x256) ![o, 0] ![120, 256] inb, w⟩ :: L))) r c = S r c := by
  by_cases h : r < o
  · rw [← hL h]
    unfold rowsOf; rw [dif_pos (by omega), dif_pos (by omega)]
    exact View.read_writes_cons_miss_of_axis a.view f _ L _ (0 : Fin 2) o 120 rfl rfl rfl (Or.inl h)
  · unfold rowsOf; rw [dif_pos (by omega)]
    refine (View.read_writes_cons_unit_of_mem a.view f inb w L _ (ix2 (⟨r - o, by omega⟩ : Fin 120) c) rfl fun k => ?_).trans ?_
    · fin_cases k
      · show r = o + (r - o); omega
      · show c.val = 0 + c.val; omega
    · refine (hw _ c).trans ?_
      rw [show o + ((⟨r - o, by omega⟩ : Fin 120) : ℕ) = r from by show o + (r - o) = r; omega]

/-- The stores `L` leave the score buffer's rows from `o` on at `Z`. -/
@[irreducible] def Kept {sp : Space} (a : Memref sig .tc sp S7808x256 .f32) (f : a.view.ty.Contents (Elt Ideal)) (Z : Rows) (o : ℕ)
    (L : List (View.Piece (Elt Ideal) S7808x256 .f32)) : Prop :=
  ∀ r, o ≤ r → ∀ c, rowsOf (a.view.read (Elt Ideal) (a.view.writes (Elt Ideal) f L)) r c = Z r c

/-- Stores that leave every row at `Z` leave the rows from `o` on there. -/
theorem kept_of {sp : Space} (a : Memref sig .tc sp S7808x256 .f32) (f : a.view.ty.Contents (Elt Ideal)) {Z : Rows}
    {L : List (View.Piece (Elt Ideal) S7808x256 .f32)} (h : rowsOf (a.view.read (Elt Ideal) (a.view.writes (Elt Ideal) f L)) = Z) (o : ℕ) : Kept a f Z o L := by
  unfold Kept; intro r _ c; rw [h]

/-- A store of 128 rows below `o` leaves the rows from `o` on. -/
theorem kept_step {sp : Space} (a : Memref sig .tc sp S7808x256 .f32) (f : a.view.ty.Contents (Elt Ideal)) {Z : Rows} {o o' : ℕ} {inb}
    {w : FVec Ideal S128x256 .f32} {L : List (View.Piece (Elt Ideal) S7808x256 .f32)} (h : o' + 128 ≤ o) (hL : Kept a f Z o L) :
    Kept a f Z o (⟨Rect.unit (s := S7808x256) ![o', 0] ![128, 256] inb, w⟩ :: L) := by
  unfold Kept at hL ⊢
  intro r hr c
  rw [← hL r hr c]
  unfold rowsOf
  split
  · exact View.read_writes_cons_miss_of_axis a.view f _ L _ (0 : Fin 2) o' 128 rfl rfl rfl (Or.inr (le_trans h hr))
  · rfl

/-- Equal stores keep the same rows. -/
theorem kept_eq {sp : Space} {a : Memref sig .tc sp S7808x256 .f32} {f : a.view.ty.Contents (Elt Ideal)} {Z : Rows} {o : ℕ}
    {L L' : List (View.Piece (Elt Ideal) S7808x256 .f32)} (h : L = L') (hL : Kept a f Z o L') : Kept a f Z o L := h ▸ hL

/-- A chunk of 256 rows loaded from the score buffer after stores that keep its rows. -/
theorem chunk_kept {sp : Space} (a : Memref sig .tc sp S7808x256 .f32) (f : a.view.ty.Contents (Elt Ideal)) {o : ℕ} {inb} {Z : Rows}
    {L : List (View.Piece (Elt Ideal) S7808x256 .f32)} (ho : o + 256 ≤ 7808) (h : Kept a f Z o L) :
    IsChunk Z o (a.view.readAt (Elt Ideal) (Rect.unit (s := S7808x256) ![o, 0] S256x256.size inb).toLoadRect (a.view.writes (Elt Ideal) f L)) := by
  unfold Kept at h
  intro r c
  rw [chunk_read a _ ho rfl r c]; exact h _ (Nat.le_add_right _ _) c

/-- The last 120 rows loaded from the score buffer after stores that keep them. -/
theorem tail_kept {sp : Space} (a : Memref sig .tc sp S7808x256 .f32) (f : a.view.ty.Contents (Elt Ideal)) {o : ℕ} {inb} {Z : Rows}
    {L : List (View.Piece (Elt Ideal) S7808x256 .f32)} (ho : o + 120 ≤ 7808) (h : Kept a f Z o L) :
    IsTail Z o (a.view.readAt (Elt Ideal) (Rect.unit (s := S7808x256) ![o, 0] S120x256.size inb).toLoadRect (a.view.writes (Elt Ideal) f L)) := by
  unfold Kept at h
  intro r c
  rw [tail_read a _ ho rfl r c]; exact h _ (Nat.le_add_right _ _) c

/-- A block stored through a cast to its own shape. -/
theorem isPiece_cast {S : Rows} {o : ℕ} {w : FVec Ideal S128x256 .f32} (h : IsPiece S o w) (hc) : IsPiece S o (shapeCast S128x256 w hc : FVec Ideal S128x256 .f32) := by
  intro r c
  pointwise
  exact h r c

/-- The last block stored through a cast to its own shape. -/
theorem isPieceTail_cast {S : Rows} {o : ℕ} {w : FVec Ideal S120x256 .f32} (h : IsPieceTail S o w) (hc) : IsPieceTail S o (shapeCast S120x256 w hc : FVec Ideal S120x256 .f32) := by
  intro r c
  pointwise
  exact h r c

/-- The row of query scales: the first block's scale in its first 128 columns, the second's in the rest. -/
def rowScale (a b : EReal) (c : Fin 256) : EReal := if c.val < 128 then a else b

/-- The row of query scales the body builds. -/
theorem rowScale_read {x y : Ideal .f32} {a b : EReal} (hx : x = a) (hy : y = b) (c : Fin 256) :
    (concatenate S1x256 1 [⟨S1x128, broadcast S1x128 x⟩, ⟨S1x128, broadcast S1x128 y⟩] concatenates_S1x128_S1x128_S1x256_d1 : FVec Ideal S1x256 .f32) (ix2 0 c) = rowScale a b c := by
  subst hx hy
  unfold rowScale
  pointwise
  split <;> rfl

/-- The zero block of the reset. -/
theorem zeroBlock : (k0_pay4 (F := Ideal)) = fun _ => (0 : EReal) := by
  funext x
  unfold k0_pay4
  pointwise

/-- The zero offsets of the reset. -/
theorem zeroOffset : (k0_pay3 (F := Ideal)) = fun _ => (0 : EReal) := by
  funext x
  unfold k0_pay3
  pointwise

end Cert.KernelIdeal.Steps

end
-- ==== Proof.Reset.lean ====
module

public import proofs.«01_k».proof.Proof.Reads
public import Idealize.ShloMosaic.Lib.Tactic
public import Idealize.ShloMosaic.Lib.Pipeline.Kit

/-! The reset of the first grid point: it fills the score buffer with zeros. -/

@[expose] public section

set_option maxRecDepth 16384

noncomputable section

namespace Cert.KernelIdeal.Body

open Cert.KernelIdeal Cert.KernelIdeal.Gen Cert.KernelIdeal.Steps
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

section Reset

variable (c : Dev nD) (i : grid0.Coords)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (v19 v21 : BitVec 32) (v39 : BitVec 1) (hc : k0_cond1 i = 1#1)

/-- One trip of the reset stores one block of zeros. -/
theorem trip_eq (k : Fin k0_t1_loop.trips) :
    ∃ inb, tripL_k0_t1 (F := Ideal) Variants.none c none i arg1 harg1 arg2 harg2 arg3 harg3 arg4 harg4 arg5 harg5 arg6 harg6 arg7 harg7 arg8 harg8 arg9 harg9 v19 v21 v39 hc k
      = [⟨Rect.unit (s := S7808x256) (k0_off1 k) S128x256.size inb, k0_pay4 (F := Ideal)⟩] := by
  refine ⟨?_, ?_⟩
  rotate_left
  · unfold tripL_k0_t1; delta trip_k0_t1; rfl

/-- Trip `k`'s block is at row `128 k`. -/
theorem off1_eq (k : Fin k0_t1_loop.trips) : k0_off1 k = ![128 * k.val, 0] := by
  revert k; decide +kernel

/-- After `k` trips of the reset the first `128 k` rows of the score buffer are zero. -/
theorem reset_rows (f : arg8.view.ty.Contents (Elt Ideal)) (k : ℕ) (hk : k ≤ k0_t1_loop.trips) (y : S7808x256.Idx) (hy : (y 0).val < 128 * k) :
    arg8.view.read (Elt Ideal) (arg8.view.writes (Elt Ideal) f (pb_k0_t1 (F := Ideal) Variants.none c none i arg1 harg1 arg2 harg2 arg3 harg3 arg4 harg4 arg5 harg5 arg6 harg6 arg7 harg7 arg8 harg8 arg9 harg9 v19 v21 v39 hc k)) y = (0 : EReal) := by
  induction k with
  | zero => omega
  | succ k ih =>
    obtain ⟨inb, e⟩ := trip_eq c i arg1 harg1 arg2 harg2 arg3 harg3 arg4 harg4 arg5 harg5 arg6 harg6 arg7 harg7 arg8 harg8 arg9 harg9 v19 v21 v39 hc ⟨k, hk⟩
    rw [pb_k0_t1_succ Variants.none c none i arg1 harg1 arg2 harg2 arg3 harg3 arg4 harg4 arg5 harg5 arg6 harg6 arg7 harg7 arg8 harg8 arg9 harg9 v19 v21 v39 hc ⟨k, hk⟩, e, List.singleton_append]
    by_cases h : (y 0).val < 128 * k
    · rw [View.read_writes_cons_miss_of_axis arg8.view f _ _ y (0 : Fin 2) (128 * k) 128 (congrFun (off1_eq ⟨k, hk⟩) 0) rfl rfl (Or.inl h)]
      exact ih (by omega) h
    · refine (View.read_writes_cons_unit_of_mem arg8.view f inb (k0_pay4 (F := Ideal)) _ y (ix2 (⟨(y 0).val - 128 * k, by omega⟩ : Fin 128) (y 1 : Fin 256)) (off1_eq ⟨k, hk⟩) fun a => ?_).trans ?_
      · fin_cases a
        · show (y 0).val = 128 * k + ((y 0).val - 128 * k); omega
        · show (y 1).val = 0 + (y 1).val; omega
      · rw [zeroBlock]

/-- After the reset the score buffer's rows are zero. -/
theorem reset_zero (f : arg8.view.ty.Contents (Elt Ideal)) :
    rowsOf (arg8.view.read (Elt Ideal) (arg8.view.writes (Elt Ideal) f (pb_k0_t1 (F := Ideal) Variants.none c none i arg1 harg1 arg2 harg2 arg3 harg3 arg4 harg4 arg5 harg5 arg6 harg6 arg7 harg7 arg8 harg8 arg9 harg9 v19 v21 v39 hc
      (Scf.trips k0_t1_loop.lb k0_t1_loop.ub k0_t1_loop.st)))) = fun _ _ => 0 := by
  funext r x
  unfold rowsOf
  split
  · next h =>
    exact reset_rows c i arg1 harg1 arg2 harg2 arg3 harg3 arg4 harg4 arg5 harg5 arg6 harg6 arg7 harg7 arg8 harg8 arg9 harg9 v19 v21 v39 hc f k0_t1_loop.trips le_rfl _ (by
      rw [show k0_t1_loop.trips = 61 from by decide]; exact h)
  · rfl

end Reset

end Cert.KernelIdeal.Body

end
-- ==== Proof.KernelIdealBody.lean ====
module

public import proofs.«01_k».proof.Proof.Reset
public import Idealize.ShloMosaic.Lib.Tactic
public import Idealize.ShloMosaic.Lib.Pipeline.Kit

/-! What the attention kernel's body computes at one grid point, over the extended reals. -/

@[expose] public section

set_option maxRecDepth 16384

noncomputable section

namespace Cert.KernelIdeal.Body

open Cert.KernelIdeal Cert.KernelIdeal.Gen Cert.KernelIdeal.Steps
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The scores of the keys and queries of a grid point's blocks: their products, times the two query blocks' scales by
column and the key blocks' scales by row, all read from the tables at the point's head. -/
def pointScores (i : grid0.Coords) (x1 x2 : Vec Ideal S80x61 .f32) (x4 : Vec Ideal S1x256x128 .fp8e4m3) (x5 : Vec Ideal S1x7808x128 .fp8e4m3) : Rows :=
  scoreRows (keysOf x5) (queriesOf x4) (rowScale (scalesOf x1 (k0_off2 i 0) (k0_off2 i 1)) (scalesOf x1 (k0_off3 i 0) (k0_off3 i 1))) (scalesOf x2 (k0_off4 i 0))

/-- What the body leaves at a grid point whose scratch held the scores `Z` and the offsets `mo`: the output block of
`Z` and `mo`, the scores of this point's keys and queries, and their maxima less 8. -/
structure Point (i : grid0.Coords) (x1 x2 : Vec Ideal S80x61 .f32) (x3 : Vec Ideal S80x1 .f32) (x4 : Vec Ideal S1x256x128 .fp8e4m3)
    (x5 : Vec Ideal S1x7808x128 .fp8e4m3) (x6 : Vec Ideal S1x128x7808 .fp8e4m3) (Z : Rows) (mo : Vec Ideal S8x256 .f32)
    (o : Vec Ideal S1x256x128 .bf16) (z : Vec Ideal S7808x256 .f32) (mx : Vec Ideal S8x256 .f32) : Prop where
  out : ∀ c d, o (ix3 0 c d) = (∑ r ∈ range 7800, valsOf x6 d r * expRows Z mo r c)
    * Ideal.div (scalesOf x3 (k0_off65 i 0) (k0_off65 i 1)) (∑ r ∈ range 7800, expRows Z mo r c)
  score : ∀ r < 7800, ∀ c, rowsOf z r c = pointScores i x1 x2 x4 x5 r c
  top : ∀ M : Fin 256 → EReal, (∀ c x, M c ≤ x ↔ ∀ r < 7800, pointScores i x1 x2 x4 x5 r c ≤ x) → ∀ s c, mx (ix2 s c) = M c - ((8 : ℝ) : EReal)

end Cert.KernelIdeal.Body

end
-- ==== Proof.GridScales.lean ====
module

public import proofs.«01_k».proof.Proof.Gen.KernelIdeal
public import proofs.«01_k».proof.Proof.Gen.KernelIdeal.Frame

/-! The grid of `KernelIdeal` in closed form. Point `t` computes the scores of tile `s t = min t 2479` — head
`s t / 31`, queries from `256 * (s t % 31)` on — and writes the output of tile `t - 1`. -/

@[expose] public section

set_option maxRecDepth 65536

noncomputable section

namespace Cert.KernelIdeal.Grid

open Cert.KernelIdeal Cert.KernelIdeal.Gen
open Idealize.ShloMosaic

/-- The scratch is reset at the first point alone. -/
theorem cond1 : ∀ t : Fin grid0.N, k0_cond1 (grid0.coords t) = 1#1 ↔ t.val = 0 := by decide +kernel

/-- The query scales a point reads: those of its head's two blocks of 128 queries. -/
theorem off2 : ∀ t : Fin grid0.N, k0_off2 (grid0.coords t) 0 = min t.val 2479 / 31 ∧ k0_off2 (grid0.coords t) 1 = 2 * (min t.val 2479 % 31) := by
  decide +kernel
/-- The second of the two; past the last block the last again. -/
theorem off3 : ∀ t : Fin grid0.N, k0_off3 (grid0.coords t) 0 = min t.val 2479 / 31 ∧ k0_off3 (grid0.coords t) 1 = min (2 * (min t.val 2479 % 31) + 1) 60 := by
  decide +kernel

/-- The key scales a point reads: those of its head. -/
theorem off4 : ∀ t : Fin grid0.N, k0_off4 (grid0.coords t) 0 = min t.val 2479 / 31 := by decide +kernel

/-- The value scale a point reads: that of the head whose output it writes. -/
theorem off65 : ∀ t : Fin grid0.N, k0_off65 (grid0.coords t) 0 = (t.val - 1) / 31 ∧ k0_off65 (grid0.coords t) 1 = 0 := by decide +kernel

end Cert.KernelIdeal.Grid

end
-- ==== Proof.GridSizes.lean ====
module

public import proofs.«01_k».proof.Proof.Gen.KernelIdeal
public import proofs.«01_k».proof.Proof.Gen.KernelIdeal.Frame

/-! How much of a block the transfers of the two clipped windows of `KernelIdeal` move, in closed form. -/

@[expose] public section

set_option maxRecDepth 65536

noncomputable section

namespace Cert.KernelIdeal.Grid

open Cert.KernelIdeal Cert.KernelIdeal.Gen
open Idealize.ShloMosaic

/-- How much of the query block and of the output block a point's transfers move: all but for the last tile of a head. -/
theorem size3 : ∀ t : Fin grid0.N, (cfg0.win 3).xsize (grid0.coords t) (0 : Fin 3) = 1
    ∧ (cfg0.win 3).xsize (grid0.coords t) (1 : Fin 3) = (if min t.val 2479 % 31 = 30 then 128 else 256)
    ∧ (cfg0.win 3).xsize (grid0.coords t) (2 : Fin 3) = 128 := by decide +kernel
/-- The rows of an output block that are written back: 120 in the last tile of a head, 256 otherwise. -/
theorem size6 : ∀ t : Fin grid0.N, (cfg0.win 6).xsize (grid0.coords t) (0 : Fin 3) = 1
    ∧ (cfg0.win 6).xsize (grid0.coords t) (1 : Fin 3) = (if (t.val - 1) % 31 = 30 then 120 else 256)
    ∧ (cfg0.win 6).xsize (grid0.coords t) (2 : Fin 3) = 128 := by decide +kernel

end Cert.KernelIdeal.Grid

end
-- ==== Proof.Track.lean ====
module

public import proofs.«01_k».proof.Proof.KernelIdealRun
public import proofs.«01_k».proof.Proof.KernelIdealBody
public import proofs.«01_k».proof.Proof.GridScales
public import proofs.«01_k».proof.Proof.GridSizes
public import Idealize.ShloMosaic.Lib.Tactic
public import Idealize.ShloMosaic.Lib.Pipeline.Kit

/-! What the two scratch buffers of `KernelIdeal` hold from one grid point to the next, and what each point writes to its
output block: the scores and maxima of the tile before, and that tile's output. -/

@[expose] public section

set_option maxRecDepth 16384

noncomputable section

namespace Cert.KernelIdeal.Track

open Cert.KernelIdeal Cert.KernelIdeal.Gen Cert.KernelIdeal.Steps Cert.KernelIdeal.Body
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The query block of a point: the rows its fetch moves, and zeros in the rows it does not. -/
def qblk (c : Dev nD) (t : Fin cfg0.N) : Vec Ideal S1x256x128 .fp8e4m3 :=
  (cfg0.win 3).fill (grid0.coords t) (fun _ => (0 : EReal)) (iblk m c 3 t)

/-- The scores a point computes. -/
def scoresAt (c : Dev nD) (t : Fin cfg0.N) : Rows :=
  pointScores (grid0.coords t) (iblk m c 0 t) (iblk m c 1 t) (qblk m c t) (iblk m c 4 t)

/-- The greatest of a column's 7800 scores. -/
def topOf (S : Rows) (j : Fin 256) : EReal := ⨆ r : Fin 7800, S r j

/-- It is the least upper bound. -/
theorem topOf_le (S : Rows) (j : Fin 256) (x : EReal) : topOf S j ≤ x ↔ ∀ r < 7800, S r j ≤ x := by
  unfold topOf; rw [iSup_le_iff]; exact ⟨fun h r hr => h ⟨r, hr⟩, fun h r => h r r.2⟩

/-- Only the column's own scores matter to its greatest. -/
theorem topOf_congr {S T : Rows} {j : Fin 256} (h : ∀ r < 7800, S r j = T r j) : topOf S j = topOf T j := by
  unfold topOf; exact iSup_congr fun r => h r r.2

/-- The scores the scratch holds before point `t`: those of the point before, zeros before the first. -/
def heldScores (c : Dev nD) (t : ℕ) : Rows := if h : 0 < t ∧ t - 1 < cfg0.N then scoresAt m c ⟨t - 1, h.2⟩ else fun _ _ => 0

/-- The offsets the scratch holds before point `t`: the greatest score less 8, zeros before the first. -/
def heldTop (c : Dev nD) (t : ℕ) (j : Fin 256) : EReal :=
  if 0 < t then topOf (heldScores m c t) j - ((8 : ℝ) : EReal) else 0

/-- The columns of the tile of the point before `t` that are queries of the array. -/
def Live (t : ℕ) (j : Fin 256) : Prop := 256 * (min (t - 1) 2479 % 31) + j.val < 7800

/-- What is known of the scratch before point `t`. -/
def Held (c : Dev nD) (t : ℕ) (z : Vec Ideal S7808x256 .f32) (mx : Vec Ideal S8x256 .f32) : Prop :=
  0 < t → ∀ j, Live t j → (∀ r < 7800, rowsOf z r j = heldScores m c t r j) ∧ ∀ s, mx (ix2 s j) = heldTop m c t j

/-- The output a point writes, at a query and a channel of its block. -/
def outAt (c : Dev nD) (t : Fin cfg0.N) (j : Fin 256) (d : Fin 128) : EReal :=
  (∑ r ∈ range 7800, valsOf (iblk m c 5 t) d r * expRows (heldScores m c t) (fun i => heldTop m c t (i 1)) r j)
    * Ideal.div (scalesOf (iblk m c 2 t) (k0_off65 (grid0.coords t) 0) (k0_off65 (grid0.coords t) 1))
        (∑ r ∈ range 7800, expRows (heldScores m c t) (fun i => heldTop m c t (i 1)) r j)

/-- The output block of a point. -/
def oblk (c : Dev nD) (t : Fin cfg0.N) : Vec Ideal S1x256x128 .bf16 := fun i => outAt m c t (i 1) (i 2)

/-- The proof data: the arrays as the region finds them, every input block left in place, the output block of each
point, and what the scratch holds between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => qblk m c t
    | ⟨4, _⟩ => iblk m c 4 t
    | ⟨5, _⟩ => iblk m c 5 t
    | ⟨6, _⟩ => oblk m c t
  Φ t := iprop((∃ z mx, owns (c : Thread nD τ) (Memref.whole cc0_scratch0) fullShare z ∗ owns (c : Thread nD τ) (Memref.whole cc0_scratch1) fullShare mx ∗ ⌜Held m c t z mx⌝) ∗ ∃ r, prngReg c r)
  q _ := fullShare
  owed _ := 0

/-- The arrays are those the region is entered with. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body leaves in window 1. -/
theorem after_1 (c : Dev nD) (t : Fin cfg0.N) : (dats m 0 c).after 1 t = iblk m c 1 t := by dsimp only [dats]
/-- What the body leaves in window 2. -/
theorem after_2 (c : Dev nD) (t : Fin cfg0.N) : (dats m 0 c).after 2 t = iblk m c 2 t := by dsimp only [dats]
/-- What the body leaves in window 3. -/
theorem after_3 (c : Dev nD) (t : Fin cfg0.N) : (dats m 0 c).after 3 t = qblk m c t := by dsimp only [dats]
/-- What the body leaves in window 4. -/
theorem after_4 (c : Dev nD) (t : Fin cfg0.N) : (dats m 0 c).after 4 t = iblk m c 4 t := by dsimp only [dats]
/-- What the body leaves in window 5. -/
theorem after_5 (c : Dev nD) (t : Fin cfg0.N) : (dats m 0 c).after 5 t = iblk m c 5 t := by dsimp only [dats]
/-- What the body leaves in window 6. -/
theorem after_6 (c : Dev nD) (t : Fin cfg0.N) : (dats m 0 c).after 6 t = oblk m c t := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
/-- Window 1's buffer holds its block before the body. -/
theorem before_1 (c : Dev nD) (t : Fin cfg0.N) (d) : (dats m 0 c).before 1 t d = iblk m c 1 t :=
  before0_1_of m (dats m 0 c) (A_eq m c 1) (after_1 m c) t d
/-- Window 2's buffer holds its block before the body. -/
theorem before_2 (c : Dev nD) (t : Fin cfg0.N) (d) : (dats m 0 c).before 2 t d = iblk m c 2 t :=
  before0_2_of m (dats m 0 c) (A_eq m c 2) (after_2 m c) t d
/-- Window 4's buffer holds its block before the body. -/
theorem before_4 (c : Dev nD) (t : Fin cfg0.N) (d) : (dats m 0 c).before 4 t d = iblk m c 4 t :=
  before0_4_of m (dats m 0 c) (A_eq m c 4) (after_4 m c) t d
/-- Window 5's buffer holds its block before the body. -/
theorem before_5 (c : Dev nD) (t : Fin cfg0.N) (d) : (dats m 0 c).before 5 t d = iblk m c 5 t :=
  before0_5_of m (dats m 0 c) (A_eq m c 5) (after_5 m c) t d

/-- The cut of the query block is a function of its block index. -/
theorem clip_3 (t t' : Fin cfg0.N) (h : (cfg0.win 3).index t = (cfg0.win 3).index t') :
    (cfg0.win 3).clip (cfg0.grid.coords t) = (cfg0.win 3).clip (cfg0.grid.coords t') := by
  have h' : cc0_transform_3 (grid0.coords t) = cc0_transform_3 (grid0.coords t') := h
  show (fun a => Pipeline.Clip.of (cc0_transform_3 (grid0.coords t) a) _ _) = _
  rw [h']; rfl

/-- The query block's buffer holds its block on the rows the fetch moves, anything elsewhere. -/
theorem before_3 (c : Dev nD) (t : Fin cfg0.N) (d) : (dats m 0 c).before 3 t d = (cfg0.win 3).fill (grid0.coords t) d (iblk m c 3 t) :=
  ((dats m 0 c).before_in_eq_fetched 3 rfl (fun _ => rfl) (fun t t' h => clip_3 t t' h)
    (fun t => by rw [after_3]; unfold qblk; rw [Pipeline.Window.cut_fill]; unfold Dat.blockOf iblk; rw [A_eq]) t d).trans
    (by unfold Dat.fetched Dat.blockOf iblk; rw [A_eq])

/-- Two fillings of the query block agree on the queries of the array. -/
theorem queries_fill (t : Fin cfg0.N) (d d' : Vec Ideal S1x256x128 .fp8e4m3) (g) {j : Fin 256} (hj : Live (t.val + 1) j) (e : Fin 128) :
    queriesOf ((cfg0.win 3).fill (grid0.coords t) d g) j e = queriesOf ((cfg0.win 3).fill (grid0.coords t) d' g) j e := by
  have hm : (cfg0.win 3).moved (grid0.coords t) (ix3 (n0 := 1) (n1 := 256) (n2 := 128) 0 j e) = true := by
    rw [Pipeline.Window.moved_iff]
    obtain ⟨h0, h1, h2⟩ := Grid.size3 t
    intro a
    unfold Live at hj
    match a with
    | ⟨0, _⟩ => exact lt_of_lt_of_eq (by decide : 0 < 1) h0.symm
    | ⟨1, _⟩ => refine lt_of_lt_of_eq ?_ h1.symm
                show j.val < _
                have := j.isLt
                simp only [Nat.add_sub_cancel] at hj
                split <;> omega
    | ⟨2, _⟩ => exact lt_of_lt_of_eq e.isLt h2.symm
  show (cfg0.win 3).fill (grid0.coords t) d g _ = (cfg0.win 3).fill (grid0.coords t) d' g _
  unfold Pipeline.Window.fill
  rw [dif_pos hm, dif_pos hm]

/-- So do the scores of the point. -/
theorem scores_fill (i : grid0.Coords) (x1 x2 : Vec Ideal S80x61 .f32) (x4 y4 : Vec Ideal S1x256x128 .fp8e4m3) (x5 : Vec Ideal S1x7808x128 .fp8e4m3)
    {j : Fin 256} (h : ∀ e, queriesOf x4 j e = queriesOf y4 j e) (r : ℕ) : pointScores i x1 x2 x4 x5 r j = pointScores i x1 x2 y4 x5 r j := by
  unfold pointScores scoreRows
  simp only [h]

/-- An exponentiated score depends on its own score and its own column of offsets alone. -/
theorem expRows_congr {Z Z' : Rows} {mo mo' : Vec Ideal S8x256 .f32} {r : ℕ} {j : Fin 256} (h : Z r j = Z' r j)
    (hm : ∀ s, mo (ix2 s j) = mo' (ix2 s j)) : expRows Z mo r j = expRows Z' mo' r j := by
  unfold expRows; rw [h, hm]

/-- A point's facts carry the scratch from what is known before it to what is known after. -/
theorem held_succ (c : Dev nD) (t : Fin cfg0.N) (d : Vec Ideal S1x256x128 .fp8e4m3) {x3 x6 Z mo o z mx}
    (h : Point (grid0.coords t) (iblk m c 0 t) (iblk m c 1 t) x3 ((cfg0.win 3).fill (grid0.coords t) d (iblk m c 3 t)) (iblk m c 4 t) x6 Z mo o z mx) :
    Held m c (t.val + 1) z mx := by
  intro _ j hj
  have hs : ∀ r, pointScores (grid0.coords t) (iblk m c 0 t) (iblk m c 1 t) ((cfg0.win 3).fill (grid0.coords t) d (iblk m c 3 t)) (iblk m c 4 t) r j
      = heldScores m c (t.val + 1) r j := fun r => by
    have e : heldScores m c (t.val + 1) = scoresAt m c t := by
      unfold heldScores; rw [dif_pos ⟨Nat.succ_pos _, t.isLt⟩]; rfl
    rw [e]; unfold scoresAt qblk
    exact scores_fill _ _ _ _ _ _ (fun e => queries_fill t _ _ _ hj e) r
  refine ⟨fun r hr => (h.score r hr j).trans (hs r), fun s => ?_⟩
  rw [h.top _ (fun c x => topOf_le _ c x) s j]
  unfold heldTop
  rw [if_pos (Nat.succ_pos _), topOf_congr fun r _ => hs r]

/-- What the body leaves in its output buffer is the point's output block on the rows its write-back moves. -/
theorem out_cut (c : Dev nD) (t : Fin cfg0.N) {x1 x2 x4 x5 Z mo o z mx}
    (h : Point (grid0.coords t) x1 x2 (iblk m c 2 t) x4 x5 (iblk m c 5 t) Z mo o z mx)
    (hZ : ∀ j, (t.val = 0 ∨ Live t.val j) → (∀ r < 7800, Z r j = heldScores m c t r j) ∧ ∀ s, mo (ix2 s j) = heldTop m c t j) :
    (cfg0.win 6).cut (grid0.coords t) o = (cfg0.win 6).cut (grid0.coords t) (oblk m c t) := by
  funext y
  obtain ⟨h0, h1, h2⟩ := Grid.size6 t
  have y1 : (y (1 : Fin 3)).val < _ := lt_of_lt_of_eq (y (1 : Fin 3)).isLt h1
  have e : (cfg0.win 6).xinj (grid0.coords t) y = ix3 (n0 := 1) (n1 := 256) (n2 := 128) 0 ⟨(y (1 : Fin 3)).val, lt_of_lt_of_le y1 (by split <;> omega)⟩ ⟨(y (2 : Fin 3)).val, lt_of_lt_of_eq (y (2 : Fin 3)).isLt h2⟩ := by
    funext a
    match a with
    | ⟨0, _⟩ => exact Fin.ext (by
        have : (y (0 : Fin 3)).val < 1 := lt_of_lt_of_eq (y (0 : Fin 3)).isLt h0
        show (y (0 : Fin 3)).val = 0
        omega)
    | ⟨1, _⟩ => rfl
    | ⟨2, _⟩ => rfl
  show o ((cfg0.win 6).xinj (grid0.coords t) y) = oblk m c t ((cfg0.win 6).xinj (grid0.coords t) y)
  rw [e, h.out]
  show _ = outAt m c t _ _
  unfold outAt
  obtain ⟨hs, hm⟩ := hZ ⟨(y (1 : Fin 3)).val, lt_of_lt_of_le y1 (by split <;> omega)⟩ (by
    rcases Nat.eq_zero_or_pos t.val with h | h
    · exact .inl h
    · refine .inr ?_
      unfold Live
      have : t.val < 2481 := t.isLt
      show 256 * _ + (y (1 : Fin 3)).val < 7800
      have hm : min (t.val - 1) 2479 = t.val - 1 := by omega
      rw [hm]
      split at y1 <;> omega)
  have hE : ∀ r ∈ range 7800, expRows Z mo r ⟨(y (1 : Fin 3)).val, lt_of_lt_of_le y1 (by split <;> omega)⟩
      = expRows (heldScores m c t) (fun i => heldTop m c t (i 1)) r ⟨(y (1 : Fin 3)).val, lt_of_lt_of_le y1 (by split <;> omega)⟩ :=
    fun r hr => expRows_congr (hs r (Finset.mem_range.mp hr)) hm
  rw [Finset.sum_congr rfl hE, Finset.sum_congr rfl fun r hr => congrArg (_ * ·) (hE r hr)]
  rfl

end Cert.KernelIdeal.Track

end
-- ==== Proof.KernelEntry.lean ====
module

public import proofs.«01_k».proof.Proof.Gen.KernelIdeal
public import proofs.«01_k».proof.Proof.Gen.KernelIdeal.Frame
public import Idealize.ShloMosaic.Lib.Tactic
public import Idealize.ShloMosaic.Lib.Claim
public import Idealize.ShloMosaic.Lib.Pointwise
public import Idealize.ShloMosaic.Lib.ValueIdx

/-! What the arrays the kernel's region is entered with hold, in terms of the arguments. -/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.SL.Sem Finset

variable (m : (ℓ : Loc nD τ sig) → Buf (Elt Ideal) ℓ) (c : Dev nD) (h : Fin 80)

/-- The batch of a head of the flattened array, and its head of that batch. -/
abbrev batch : Fin 2 := ⟨h.val / 40, by omega⟩
abbrev head : Fin 40 := ⟨h.val % 40, by omega⟩

/-- The query codes. -/
theorem entry_q (n : Fin 7808) (e : Fin 128) : (V m c main_v4 : Vec Ideal S80x7808x128 .fp8e4m3) (ix3 h n e) = (m ((c.tc : Thread nD τ).loc main_arg0) : Vec Ideal S2x40x7808x128 .fp8e4m3) (ix4 (batch h) (head h) n e) := by
  entry_read
  pointwise

/-- The key codes. -/
theorem entry_k (n : Fin 7808) (e : Fin 128) : (V m c main_v5 : Vec Ideal S80x7808x128 .fp8e4m3) (ix3 h n e) = (m ((c.tc : Thread nD τ).loc main_arg1) : Vec Ideal S2x40x7808x128 .fp8e4m3) (ix4 (batch h) (head h) n e) := by
  entry_read
  pointwise

/-- The value codes. -/
theorem entry_v (e : Fin 128) (n : Fin 7808) : (V m c main_v6 : Vec Ideal S80x128x7808 .fp8e4m3) (ix3 h e n) = (m ((c.tc : Thread nD τ).loc main_arg2) : Vec Ideal S2x40x128x7808 .fp8e4m3) (ix4 (batch h) (head h) e n) := by
  entry_read
  pointwise

/-- The query scales. -/
theorem entry_qs (j : Fin 61) : (V m c main_v1 : Vec Ideal S80x61 .f32) (ix2 h j) = (m ((c.tc : Thread nD τ).loc main_arg3) : Vec Ideal S2x61x40 .f32) (ix3 (batch h) j (head h)) := by
  entry_read
  pointwise

/-- The key scales. -/
theorem entry_ks (j : Fin 61) : (V m c main_v3 : Vec Ideal S80x61 .f32) (ix2 h j) = (m ((c.tc : Thread nD τ).loc main_arg4) : Vec Ideal S2x61x40 .f32) (ix3 (batch h) j (head h)) := by
  entry_read
  pointwise

/-- The value scales. -/
theorem entry_vs : (V m c main_v7 : Vec Ideal S80x1 .f32) (ix2 h 0) = (m ((c.tc : Thread nD τ).loc main_arg5) : Vec Ideal S2x40 .f32) (ix2 (batch h) (head h)) := by
  entry_read
  pointwise

end Cert.KernelIdeal.Value

end
-- ==== Proof.GridMaps.lean ====
module

public import proofs.«01_k».proof.Proof.Gen.KernelIdeal
public import proofs.«01_k».proof.Proof.Gen.KernelIdeal.Frame

/-! The block each window of `KernelIdeal` stages at a grid point, in closed form. -/

@[expose] public section

set_option maxRecDepth 65536

noncomputable section

namespace Cert.KernelIdeal.Grid

open Cert.KernelIdeal Cert.KernelIdeal.Gen
open Idealize.ShloMosaic

/-- The blocks of queries, keys, values and output a point stages. -/
theorem map3 : ∀ t : Fin grid0.N, cc0_transform_3 (grid0.coords t) 0 = min t.val 2479 / 31 ∧ cc0_transform_3 (grid0.coords t) 1 = min t.val 2479 % 31
    ∧ cc0_transform_3 (grid0.coords t) 2 = 0 := by decide +kernel
/-- The key block a point reads: its head's. -/
theorem map4 : ∀ t : Fin grid0.N, cc0_transform_4 (grid0.coords t) 0 = min t.val 2479 / 31 ∧ cc0_transform_4 (grid0.coords t) 1 = 0
    ∧ cc0_transform_4 (grid0.coords t) 2 = 0 := by decide +kernel
/-- The value block a point reads: that of the head whose output it writes. -/
theorem map5 : ∀ t : Fin grid0.N, cc0_transform_5 (grid0.coords t) 0 = (t.val - 1) / 31 ∧ cc0_transform_5 (grid0.coords t) 1 = 0
    ∧ cc0_transform_5 (grid0.coords t) 2 = 0 := by decide +kernel
/-- The output block a point writes: batch, tile and head of the tile before. -/
theorem map6 : ∀ t : Fin grid0.N, cc0_transform_6 (grid0.coords t) 0 = (t.val - 1) / 31 / 40 ∧ cc0_transform_6 (grid0.coords t) 1 = (t.val - 1) % 31
    ∧ cc0_transform_6 (grid0.coords t) 2 = (t.val - 1) / 31 % 40 := by decide +kernel

end Cert.KernelIdeal.Grid

end
-- ==== Proof.KernelBlocks.lean ====
module

public import proofs.«01_k».proof.Proof.Track
public import proofs.«01_k».proof.Proof.KernelEntry
public import proofs.«01_k».proof.Proof.GridMaps
public import Idealize.ShloMosaic.Lib.Pipeline.ValueKit

/-! The kernel's input blocks at each grid point, entry by entry, in terms of the arrays its region is entered with. -/

@[expose] public section

set_option maxRecDepth 16384

noncomputable section

namespace Cert.KernelIdeal.Value

open Cert.KernelIdeal Cert.KernelIdeal.Gen Cert.KernelIdeal.Steps Cert.KernelIdeal.Body Cert.KernelIdeal.Track
open Idealize.ShloMosaic Idealize.ShloMosaic.TcCoe Idealize.ShloMosaic.Tactic Finset

variable (m : (ℓ : Loc nD τ sig) → Buf (Elt Ideal) ℓ)

/-- The three scale blocks are their arrays. -/
theorem iblk_0 (c : Dev nD) (t : Fin cfg0.N) : iblk m c 0 t = V m c main_v1 := by
  funext y; unfold iblk; blk_simp; refine congrArg (V m c main_v1) ?_
  have e0 : win0_0.index t 0 = 0 := rfl
  have e1 : win0_0.index t 1 = 0 := rfl
  blk_ext [e0, e1]
/-- Window 1's block is its array. -/
theorem iblk_1 (c : Dev nD) (t : Fin cfg0.N) : iblk m c 1 t = V m c main_v3 := by
  funext y; unfold iblk; blk_simp; refine congrArg (V m c main_v3) ?_
  have e0 : win0_1.index t 0 = 0 := rfl
  have e1 : win0_1.index t 1 = 0 := rfl
  blk_ext [e0, e1]
/-- Window 2's block is its array. -/
theorem iblk_2 (c : Dev nD) (t : Fin cfg0.N) : iblk m c 2 t = V m c main_v7 := by
  funext y; unfold iblk; blk_simp; refine congrArg (V m c main_v7) ?_
  have e0 : win0_2.index t 0 = 0 := rfl
  have e1 : win0_2.index t 1 = 0 := rfl
  blk_ext [e0, e1]

/-- A key block is its head's keys. -/
theorem keys_apply (c : Dev nD) (t : Fin cfg0.N) (h : Fin 80) (hh : h.val = min t.val 2479 / 31) (r : Fin 7808) (e : Fin 128) :
    keysOf (iblk m c 4 t) r e = (V m c main_v5 : Vec Ideal S80x7808x128 .fp8e4m3) (ix3 h r e) := by
  unfold keysOf
  rw [dif_pos r.isLt]
  obtain ⟨h0, h1, h2⟩ := Grid.map4 t
  unfold iblk
  blk_simp
  refine congrArg (V m c main_v5) ?_
  have e0 : win0_4.index t 0 = _ := h0
  have e1 : win0_4.index t 1 = _ := h1
  have e2 : win0_4.index t 2 = _ := h2
  blk_ext [e0, e1, e2]

/-- A value block is its head's values. -/
theorem vals_apply (c : Dev nD) (t : Fin cfg0.N) (h : Fin 80) (hh : h.val = (t.val - 1) / 31) (r : Fin 7808) (d : Fin 128) :
    valsOf (iblk m c 5 t) d r = (V m c main_v6 : Vec Ideal S80x128x7808 .fp8e4m3) (ix3 h d r) := by
  unfold valsOf
  rw [dif_pos r.isLt]
  obtain ⟨h0, h1, h2⟩ := Grid.map5 t
  unfold iblk
  blk_simp
  refine congrArg (V m c main_v6) ?_
  have e0 : win0_5.index t 0 = _ := h0
  have e1 : win0_5.index t 1 = _ := h1
  have e2 : win0_5.index t 2 = _ := h2
  blk_ext [e0, e1, e2]

/-- A query block's live rows are its tile of its head's queries. -/
theorem queries_apply (c : Dev nD) (t : Fin cfg0.N) (h : Fin 80) (hh : h.val = min t.val 2479 / 31) (j : Fin 256)
    (n : Fin 7808) (hn : n.val = 256 * (min t.val 2479 % 31) + j) (hl : n.val < 7800) (e : Fin 128) :
    queriesOf (qblk m c t) j e = (V m c main_v4 : Vec Ideal S80x7808x128 .fp8e4m3) (ix3 h n e) := by
  obtain ⟨h0, h1, h2⟩ := Grid.map3 t
  obtain ⟨s0, s1, s2⟩ := Grid.size3 t
  have hm : (cfg0.win 3).moved (grid0.coords t) (ix3 (n0 := 1) (n1 := 256) (n2 := 128) 0 j e) = true := by
    rw [Pipeline.Window.moved_iff]
    intro a
    match a with
    | ⟨0, _⟩ => exact lt_of_lt_of_eq (by decide : 0 < 1) s0.symm
    | ⟨1, _⟩ => refine lt_of_lt_of_eq ?_ s1.symm
                show j.val < _
                have := j.isLt
                split <;> omega
    | ⟨2, _⟩ => exact lt_of_lt_of_eq e.isLt s2.symm
  show qblk m c t (ix3 0 j e) = _
  unfold qblk Pipeline.Window.fill
  rw [dif_pos hm]
  unfold iblk
  blk_simp
  refine congrArg (V m c main_v4) ?_
  have e0 : win0_3.index t 0 = _ := h0
  have e1 : win0_3.index t 1 = _ := h1
  have e2 : win0_3.index t 2 = _ := h2
  blk_ext [e0, e1, e2]

end Cert.KernelIdeal.Value

end
-- ==== Proof.FirstPoint.lean ====
module

public import proofs.«01_k».proof.Proof.KernelIdealBody
public import proofs.«01_k».proof.Proof.Reset
public import Idealize.ShloMosaic.Lib.Tactic
public import Idealize.ShloMosaic.Lib.Pipeline.Kit

/-! The body of `KernelIdeal` at the first grid point, which resets the scratch buffers before it reads them. -/

@[expose] public section

set_option maxRecDepth 16384

noncomputable section

namespace Cert.KernelIdeal.FirstPoint

open Cert.KernelIdeal.Body
open Cert.KernelIdeal Cert.KernelIdeal.Gen Cert.KernelIdeal.Steps
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 40000000 in
/-- The body at the first grid point: it resets its scratch, so its output block is that of zero scores and zero offsets. -/
theorem run (c : Dev nD) (E : Set ℕ) (i : grid0.Coords)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (hc : k0_cond1 i = 1#1)
    (x1 : Vec Ideal S80x61 .f32) (x2 : Vec Ideal S80x61 .f32) (x3 : Vec Ideal S80x1 .f32) (x4 : Vec Ideal S1x256x128 .fp8e4m3)
    (x5 : Vec Ideal S1x7808x128 .fp8e4m3) (x6 : Vec Ideal S1x128x7808 .fp8e4m3) (z : Vec Ideal S7808x256 .f32) (mx : Vec Ideal S8x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare z ∗ owns (c : Thread nD τ) arg9 fullShare mx
        ∗ (∀ o z' mx', iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare o ∗ owns (c : Thread nD τ) arg8 fullShare z' ∗ owns (c : Thread nD τ) arg9 fullShare mx'
          ∗ ⌜Point i x1 x2 x3 x4 x5 x6 (fun _ _ => 0) (fun _ => (0 : EReal)) o z' mx'⌝) -∗ K ⟨⟩))
      ⊢ wp frame (wpE (defs₀ (F := Ideal)) Variants.none c none) E (cc0_attend i arg1 harg1 arg2 harg2 arg3 harg3 arg4 harg4 arg5 harg5 arg6 harg6 arg7 harg7 arg8 harg8 arg9 harg9) K := by
  simp only [cc0_attend_eq_skeleton]; unfold cc0_attend_skel
  simp only [k0_part37_eq_skeleton]; unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := sl_exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  ipureintro
  obtain ⟨g, hg, hZ⟩ : ∃ g, pb_k0_t1 (F := Ideal) Variants.none c none i arg1 harg1 arg2 harg2 arg3 harg3 arg4 harg4 arg5 harg5 arg6 harg6 arg7 harg7 arg8 harg8 arg9 harg9 (run.sl.v19 i) (run.sl.v21 i) (run.sl.v39 i) hc
      (Scf.trips k0_t1_loop.lb k0_t1_loop.ub k0_t1_loop.st) = g ∧ rowsOf (arg8.view.read (Elt Ideal) (arg8.view.writes (Elt Ideal) f8 g)) = fun _ _ => 0 :=
    ⟨_, rfl, reset_zero c i arg1 harg1 arg2 harg2 arg3 harg3 arg4 harg4 arg5 harg5 arg6 harg6 arg7 harg7 arg8 harg8 arg9 harg9 _ _ _ hc f8⟩
  have hK := kept_of arg8 f8 hZ
  obtain ⟨mo, hmo', hmo⟩ : ∃ mo : Vec Ideal S8x256 .f32, run.sl.v54 c arg9 = mo ∧ mo = fun _ => (0 : EReal) :=
    ⟨_, rfl, (View.readCov_full (Val := Elt Ideal) arg9.view inb_S8x256_S8x256_0_0 inb_S8x256_S8x256_0_0 (k0_pay3 (F := Ideal)) []).trans zeroOffset⟩
  dsimp only [run.sl.H8_2, run.sl.H8_4, run.sl.H8_6, run.sl.H8_8, run.sl.H8_10, run.sl.H8_12, run.sl.H8_14, run.sl.H8_16, run.sl.H8_18, run.sl.H8_20, run.sl.H8_22, run.sl.H8_24, run.sl.H8_26, run.sl.H8_28, run.sl.H8_30, run.sl.H8_32, run.sl.H8_34, run.sl.H8_36, run.sl.H8_38, run.sl.H8_40, run.sl.H8_42, run.sl.H8_44, run.sl.H8_46, run.sl.H8_48, run.sl.H8_50, run.sl.H8_52, run.sl.H8_54, run.sl.H8_56, run.sl.H8_58, run.sl.H8_60, run.sl.H9_1, run.sl.cst_33, run.sl.cst_47, run.sl.r, run.sl.r_1, run.sl.r_2, run.sl.r_3, run.sl.r_4, run.sl.r_5, run.sl.r_6, run.sl.r_7, run.sl.r_8, run.sl.r_9, run.sl.r_10, run.sl.r_11, run.sl.r_12, run.sl.r_13, run.sl.r_14, run.sl.r_15, run.sl.r_16, run.sl.r_17, run.sl.r_18, run.sl.r_19, run.sl.r_20, run.sl.r_21, run.sl.r_22, run.sl.r_23, run.sl.r_24, run.sl.r_25, run.sl.r_26, run.sl.r_27, run.sl.r_28, run.sl.r_29, run.sl.r_30, run.sl.r_31, run.sl.r_32, run.sl.r_33, run.sl.r_34, run.sl.r_35, run.sl.r_36, run.sl.r_37, run.sl.r_38, run.sl.r_39, run.sl.r_40, run.sl.r_41, run.sl.r_42, run.sl.r_43, run.sl.r_44, run.sl.r_45, run.sl.r_46, run.sl.r_47, run.sl.r_48, run.sl.r_49, run.sl.r_50, run.sl.r_51, run.sl.r_52, run.sl.r_53, run.sl.r_54, run.sl.r_55, run.sl.r_56, run.sl.r_57, run.sl.r_58, run.sl.r_59, run.sl.r_60, run.sl.r_61, run.sl.r_62, run.sl.r_63, run.sl.r_64, run.sl.r_65, run.sl.r_66, run.sl.r_67, run.sl.r_68, run.sl.r_69, run.sl.r_70, run.sl.r_71, run.sl.r_72, run.sl.r_73, run.sl.r_74, run.sl.r_75, run.sl.r_76, run.sl.r_77, run.sl.r_78, run.sl.r_79, run.sl.r_80, run.sl.r_81, run.sl.r_82, run.sl.r_83, run.sl.r_84, run.sl.r_85, run.sl.r_86, run.sl.r_87, run.sl.r_88, run.sl.r_89, run.sl.r_90, run.sl.r_91, run.sl.r_92, run.sl.r_93, run.sl.r_94, run.sl.r_95, run.sl.r_96, run.sl.r_97, run.sl.r_98, run.sl.r_99, run.sl.r_100, run.sl.r_101, run.sl.r_102, run.sl.r_103, run.sl.r_104, run.sl.r_105, run.sl.r_106, run.sl.r_107, run.sl.r_108, run.sl.r_109, run.sl.r_110, run.sl.r_111, run.sl.r_112, run.sl.r_113, run.sl.r_114, run.sl.r_115, run.sl.r_116, run.sl.r_117, run.sl.r_118, run.sl.r_119, run.sl.r_120, run.sl.r_121, run.sl.r_122, run.sl.r_123, run.sl.r_124, run.sl.r_125, run.sl.r_126, run.sl.r_127, run.sl.r_128, run.sl.r_129, run.sl.r_130, run.sl.r_131, run.sl.r_132, run.sl.r_133, run.sl.r_134, run.sl.r_135, run.sl.r_136, run.sl.r_137, run.sl.r_138, run.sl.r_139, run.sl.r_140, run.sl.r_141, run.sl.r_142, run.sl.r_143, run.sl.r_144, run.sl.r_145, run.sl.r_146, run.sl.r_147, run.sl.r_148, run.sl.r_149, run.sl.r_150, run.sl.r_151, run.sl.r_152, run.sl.r_153, run.sl.r_154, run.sl.r_155, run.sl.r_156, run.sl.r_157, run.sl.r_158, run.sl.r_159, run.sl.r_160, run.sl.r_161, run.sl.r_162, run.sl.r_163, run.sl.r_164, run.sl.r_165, run.sl.r_166, run.sl.r_167, run.sl.r_168, run.sl.r_169, run.sl.r_170, run.sl.r_171, run.sl.r_172, run.sl.r_173, run.sl.r_174, run.sl.r_175, run.sl.r_176, run.sl.r_177, run.sl.r_178, run.sl.r_179, run.sl.r_180, run.sl.r_181, run.sl.r_182, run.sl.r_183, run.sl.r_184, run.sl.r_185, run.sl.r_186, run.sl.r_187, run.sl.r_188, run.sl.r_189, run.sl.r_190, run.sl.r_191, run.sl.r_192, run.sl.r_193, run.sl.r_194, run.sl.r_195, run.sl.r_196, run.sl.r_197, run.sl.r_198, run.sl.r_199, run.sl.r_200, run.sl.r_201, run.sl.r_202, run.sl.r_203, run.sl.r_204, run.sl.r_205, run.sl.r_206, run.sl.r_207, run.sl.r_208, run.sl.r_209, run.sl.r_210, run.sl.r_211, run.sl.r_212, run.sl.r_213, run.sl.v54,
    k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313] at hg hmo' ⊢
  simp only [hg, hmo']
  refine ⟨?_, ?_, ?_⟩
  · intro c d
    rw [View.read_writes_full, ← scale_read arg3 f3 (k0_off65 i) rfl rfl]
    refine out_apply ?_ ?_ c d
    · refine isL_tail ?_ (isETail_mk (by decide) hmo (tail_kept _ _ (by decide) (by (repeat refine kept_step _ _ (by decide) ?_); exact hK _)))
      iterate 30 refine isL_step ?_ (isE_mk (by decide) hmo (chunk_kept _ _ (by decide) (by (repeat refine kept_step _ _ (by decide) ?_); exact hK _)))
      exact isL_zero _
    · refine isAcc_tail ?_ (isETail_mk (by decide) (hmo'.trans hmo) (tail_kept _ _ (by decide) (by (repeat refine kept_step _ _ (by decide) ?_); exact kept_eq hg (hK _)))) (valTail_read _ _ (by decide))
      iterate 30 refine isAcc_step ?_ (isE_mk (by decide) hmo (chunk_kept _ _ (by decide) (by (repeat refine kept_step _ _ (by decide) ?_); exact hK _))) (val_read _ _ (by decide))
      exact isAcc_zero _ _
  · intro r hr c
    refine rowsTail_step _ _ (by exact hr) (by decide) ?_ fun h => ?_
    · refine isPieceTail_cast ?_ _
      exact isPiece_tail (by decide) (keyTail_read _ _ (by decide)) (query_read _ _) (rowScale_read (scale_read _ _ _ rfl rfl) (scale_read _ _ _ rfl rfl)) (scale_read _ _ _ rfl rfl)
    iterate 30
      refine rows_step _ _ (by exact h) (by decide) ?_ fun h => ?_
      · refine isPiece_cast ?_ _
        exact isPiece_hi (by decide) (key_read _ _ (by decide)) (query_read _ _) (rowScale_read (scale_read _ _ _ rfl rfl) (scale_read _ _ _ rfl rfl)) (scale_read _ _ _ rfl rfl)
      refine rows_step _ _ (by exact h) (by decide) ?_ fun h => ?_
      · refine isPiece_cast ?_ _
        exact isPiece_lo (by decide) (key_read _ _ (by decide)) (query_read _ _) (rowScale_read (scale_read _ _ _ rfl rfl) (scale_read _ _ _ rfl rfl)) (scale_read _ _ _ rfl rfl)
    exact absurd h (Nat.not_lt_zero _)
  · intro M hM s c
    rw [View.read_writes_full]
    refine max_apply ?_ M hM s c
    refine isM_tail ?_ (isPiece_tail (by decide) (keyTail_read _ _ (by decide)) (query_read _ _) (rowScale_read (scale_read _ _ _ rfl rfl) (scale_read _ _ _ rfl rfl)) (scale_read _ _ _ rfl rfl))
    iterate 30
      refine isM_step ?_ (isPiece_hi (by decide) (key_read _ _ (by decide)) (query_read _ _) (rowScale_read (scale_read _ _ _ rfl rfl) (scale_read _ _ _ rfl rfl)) (scale_read _ _ _ rfl rfl))
      refine isM_step ?_ (isPiece_lo (by decide) (key_read _ _ (by decide)) (query_read _ _) (rowScale_read (scale_read _ _ _ rfl rfl) (scale_read _ _ _ rfl rfl)) (scale_read _ _ _ rfl rfl))
    exact isM_zero _

end Cert.KernelIdeal.FirstPoint

end
-- ==== Proof.LaterPoint.lean ====
module

public import proofs.«01_k».proof.Proof.KernelIdealBody
public import proofs.«01_k».proof.Proof.Reset
public import Idealize.ShloMosaic.Lib.Tactic
public import Idealize.ShloMosaic.Lib.Pipeline.Kit

/-! The body of `KernelIdeal` at every grid point but the first. -/

@[expose] public section

set_option maxRecDepth 16384

noncomputable section

namespace Cert.KernelIdeal.LaterPoint

open Cert.KernelIdeal.Body
open Cert.KernelIdeal Cert.KernelIdeal.Gen Cert.KernelIdeal.Steps
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option maxHeartbeats 40000000 in
/-- The body at any other grid point: its output block is that of the scores and offsets the scratch held. -/
theorem run (c : Dev nD) (E : Set ℕ) (i : grid0.Coords)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (hc : ¬k0_cond1 i = 1#1)
    (x1 : Vec Ideal S80x61 .f32) (x2 : Vec Ideal S80x61 .f32) (x3 : Vec Ideal S80x1 .f32) (x4 : Vec Ideal S1x256x128 .fp8e4m3)
    (x5 : Vec Ideal S1x7808x128 .fp8e4m3) (x6 : Vec Ideal S1x128x7808 .fp8e4m3) (z : Vec Ideal S7808x256 .f32) (mx : Vec Ideal S8x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg8 fullShare z ∗ owns (c : Thread nD τ) arg9 fullShare mx
        ∗ (∀ o z' mx', iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare o ∗ owns (c : Thread nD τ) arg8 fullShare z' ∗ owns (c : Thread nD τ) arg9 fullShare mx'
          ∗ ⌜Point i x1 x2 x3 x4 x5 x6 (rowsOf z) mx o z' mx'⌝) -∗ K ⟨⟩))
      ⊢ wp frame (wpE (defs₀ (F := Ideal)) Variants.none c none) E (cc0_attend i arg1 harg1 arg2 harg2 arg3 harg3 arg4 harg4 arg5 harg5 arg6 harg6 arg7 harg7 arg8 harg8 arg9 harg9) K := by
  simp only [cc0_attend_eq_skeleton]; unfold cc0_attend_skel
  simp only [k0_part37_eq_skeleton]; unfold k0_part37_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := sl_exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  ipureintro
  have hZ : rowsOf (arg8.view.read (Elt Ideal) f8) = rowsOf (arg8.view.read (Elt Ideal) f8) := rfl
  have hmo := View.readAt_full arg9.view f9 inb_S8x256_S8x256_0_0
  dsimp only [run.sl.cst_33, run.sl.cst_47, run.sl.r, run.sl.r_1, run.sl.r_10, run.sl.r_100, run.sl.r_101, run.sl.r_102, run.sl.r_103, run.sl.r_104, run.sl.r_105, run.sl.r_106, run.sl.r_107, run.sl.r_108, run.sl.r_109, run.sl.r_11, run.sl.r_110, run.sl.r_111, run.sl.r_112, run.sl.r_113, run.sl.r_114, run.sl.r_115, run.sl.r_116, run.sl.r_117, run.sl.r_118, run.sl.r_119, run.sl.r_12, run.sl.r_120, run.sl.r_121, run.sl.r_122, run.sl.r_123, run.sl.r_124, run.sl.r_125, run.sl.r_126, run.sl.r_127, run.sl.r_128, run.sl.r_129, run.sl.r_13, run.sl.r_130, run.sl.r_131, run.sl.r_132, run.sl.r_133, run.sl.r_134, run.sl.r_135, run.sl.r_136, run.sl.r_137, run.sl.r_138, run.sl.r_139, run.sl.r_14, run.sl.r_140, run.sl.r_141, run.sl.r_142, run.sl.r_143, run.sl.r_144, run.sl.r_145, run.sl.r_146, run.sl.r_147, run.sl.r_148, run.sl.r_149, run.sl.r_15, run.sl.r_150, run.sl.r_151, run.sl.r_152, run.sl.r_153, run.sl.r_154, run.sl.r_155, run.sl.r_156, run.sl.r_157, run.sl.r_158, run.sl.r_159, run.sl.r_16, run.sl.r_160, run.sl.r_161, run.sl.r_162, run.sl.r_163, run.sl.r_164, run.sl.r_165, run.sl.r_166, run.sl.r_167, run.sl.r_168, run.sl.r_169, run.sl.r_17, run.sl.r_170, run.sl.r_171, run.sl.r_172, run.sl.r_173, run.sl.r_174, run.sl.r_175, run.sl.r_176, run.sl.r_177, run.sl.r_178, run.sl.r_179, run.sl.r_18, run.sl.r_180, run.sl.r_181, run.sl.r_182, run.sl.r_183, run.sl.r_184, run.sl.r_185, run.sl.r_186, run.sl.r_187, run.sl.r_188, run.sl.r_189, run.sl.r_19, run.sl.r_190, run.sl.r_191, run.sl.r_192, run.sl.r_193, run.sl.r_194, run.sl.r_195, run.sl.r_196, run.sl.r_197, run.sl.r_198, run.sl.r_199, run.sl.r_2, run.sl.r_20, run.sl.r_200, run.sl.r_201, run.sl.r_202, run.sl.r_203, run.sl.r_204, run.sl.r_205, run.sl.r_206, run.sl.r_207, run.sl.r_208, run.sl.r_209, run.sl.r_21, run.sl.r_210, run.sl.r_211, run.sl.r_212, run.sl.r_22, run.sl.r_23, run.sl.r_24, run.sl.r_25, run.sl.r_26, run.sl.r_27, run.sl.r_28, run.sl.r_29, run.sl.r_3, run.sl.r_30, run.sl.r_31, run.sl.r_32, run.sl.r_33, run.sl.r_34, run.sl.r_35, run.sl.r_36, run.sl.r_37, run.sl.r_38, run.sl.r_39, run.sl.r_4, run.sl.r_40, run.sl.r_41, run.sl.r_42, run.sl.r_43, run.sl.r_44, run.sl.r_45, run.sl.r_46, run.sl.r_47, run.sl.r_48, run.sl.r_49, run.sl.r_5, run.sl.r_50, run.sl.r_51, run.sl.r_52, run.sl.r_53, run.sl.r_54, run.sl.r_55, run.sl.r_56, run.sl.r_57, run.sl.r_58, run.sl.r_59, run.sl.r_6, run.sl.r_60, run.sl.r_61, run.sl.r_62, run.sl.r_63, run.sl.r_64, run.sl.r_65, run.sl.r_66, run.sl.r_67, run.sl.r_68, run.sl.r_69, run.sl.r_7, run.sl.r_70, run.sl.r_71, run.sl.r_72, run.sl.r_73, run.sl.r_74, run.sl.r_75, run.sl.r_76, run.sl.r_77, run.sl.r_78, run.sl.r_79, run.sl.r_8, run.sl.r_80, run.sl.r_81, run.sl.r_82, run.sl.r_83, run.sl.r_84, run.sl.r_85, run.sl.r_86, run.sl.r_87, run.sl.r_88, run.sl.r_89, run.sl.r_9, run.sl.r_90, run.sl.r_91, run.sl.r_92, run.sl.r_93, run.sl.r_94, run.sl.r_95, run.sl.r_96, run.sl.r_97, run.sl.r_98, run.sl.r_99, run.sl.v1005, run.sl.v105, run.sl.v1050, run.sl.v1095, run.sl.v1140, run.sl.v1185, run.sl.v1230, run.sl.v1275, run.sl.v1320, run.sl.v1365, run.sl.v1410, run.sl.v150, run.sl.v195, run.sl.v240, run.sl.v285, run.sl.v330, run.sl.v375, run.sl.v420, run.sl.v465, run.sl.v510, run.sl.v555, run.sl.v600, run.sl.v645, run.sl.v690, run.sl.v735, run.sl.v780, run.sl.v825, run.sl.v870, run.sl.v915, run.sl.v960,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313]
  refine ⟨?_, ?_, ?_⟩
  · intro c d
    rw [View.read_writes_full, ← scale_read arg3 f3 (k0_off65 i) rfl rfl]
    refine out_apply ?_ ?_ c d
    · refine isL_tail ?_ (isETail_mk (by decide) hmo (tail_read _ _ (by decide) (by apply hZ)))
      iterate 30 refine isL_step ?_ (isE_mk (by decide) hmo (chunk_read _ _ (by decide) (by apply hZ)))
      exact isL_zero _
    · refine isAcc_tail ?_ (isETail_mk (by decide) hmo (tail_read _ _ (by decide) (by apply hZ))) (valTail_read _ _ (by decide))
      iterate 30 refine isAcc_step ?_ (isE_mk (by decide) hmo (chunk_read _ _ (by decide) (by apply hZ))) (val_read _ _ (by decide))
      exact isAcc_zero _ _
  · intro r hr c
    refine rowsTail_step _ _ (by exact hr) (by decide) ?_ fun h => ?_
    · refine isPieceTail_cast ?_ _
      exact isPiece_tail (by decide) (keyTail_read _ _ (by decide)) (query_read _ _) (rowScale_read (scale_read _ _ _ rfl rfl) (scale_read _ _ _ rfl rfl)) (scale_read _ _ _ rfl rfl)
    iterate 30
      refine rows_step _ _ (by exact h) (by decide) ?_ fun h => ?_
      · refine isPiece_cast ?_ _
        exact isPiece_hi (by decide) (key_read _ _ (by decide)) (query_read _ _) (rowScale_read (scale_read _ _ _ rfl rfl) (scale_read _ _ _ rfl rfl)) (scale_read _ _ _ rfl rfl)
      refine rows_step _ _ (by exact h) (by decide) ?_ fun h => ?_
      · refine isPiece_cast ?_ _
        exact isPiece_lo (by decide) (key_read _ _ (by decide)) (query_read _ _) (rowScale_read (scale_read _ _ _ rfl rfl) (scale_read _ _ _ rfl rfl)) (scale_read _ _ _ rfl rfl)
    exact absurd h (Nat.not_lt_zero _)
  · intro M hM s c
    rw [View.read_writes_full]
    refine max_apply ?_ M hM s c
    refine isM_tail ?_ (isPiece_tail (by decide) (keyTail_read _ _ (by decide)) (query_read _ _) (rowScale_read (scale_read _ _ _ rfl rfl) (scale_read _ _ _ rfl rfl)) (scale_read _ _ _ rfl rfl))
    iterate 30
      refine isM_step ?_ (isPiece_hi (by decide) (key_read _ _ (by decide)) (query_read _ _) (rowScale_read (scale_read _ _ _ rfl rfl) (scale_read _ _ _ rfl rfl)) (scale_read _ _ _ rfl rfl))
      refine isM_step ?_ (isPiece_lo (by decide) (key_read _ _ (by decide)) (query_read _ _) (rowScale_read (scale_read _ _ _ rfl rfl) (scale_read _ _ _ rfl rfl)) (scale_read _ _ _ rfl rfl))
    exact isM_zero _

end Cert.KernelIdeal.LaterPoint

end
-- ==== Proof.TrackRun.lean ====
module

public import proofs.«01_k».proof.Proof.Track
public import proofs.«01_k».proof.Proof.FirstPoint
public import proofs.«01_k».proof.Proof.LaterPoint
public import Idealize.ShloMosaic.Lib.Tactic
public import Idealize.ShloMosaic.Lib.Pipeline.Kit

/-! The run of `KernelIdeal` with what each point writes: the pipeline's body obligation at the data of `Track`, and the
launch. -/

@[expose] public section

set_option maxRecDepth 16384

noncomputable section

namespace Cert.KernelIdeal.Track

open Cert.KernelIdeal Cert.KernelIdeal.Gen Cert.KernelIdeal.Steps Cert.KernelIdeal.Body
open Idealize.ShloMosaic Idealize.ShloMosaic.TcCoe Idealize.ShloMosaic.Tactic Finset
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What a point is given of the scratch: that it holds the first point's zeros once reset, or what is known. -/
theorem held_zero (c : Dev nD) (t : Fin cfg0.N) (ht : t.val = 0) (j : Fin 256) :
    (∀ r < 7800, (fun _ _ => 0 : Rows) r j = heldScores m c t r j) ∧ ∀ s : Fin 8, (fun _ => (0 : EReal) : Vec Ideal S8x256 .f32) (ix2 s j) = heldTop m c t j := by
  refine ⟨fun r _ => ?_, fun s => ?_⟩
  · unfold heldScores; rw [dif_neg (fun h => absurd h.1 (by omega))]
  · unfold heldTop; rw [if_neg (by omega)]

/-- The body at any point: from what is known of the scratch before it to what is known after, with the point's output. -/
theorem body_point (c : Dev nD) (E : Set ℕ) (t : Fin cfg0.N)
    (arg1 : Memref sig .tc .smem S80x61 .f32) (harg1 : arg1.IsWhole) (arg2 : Memref sig .tc .smem S80x61 .f32) (harg2 : arg2.IsWhole)
    (arg3 : Memref sig .tc .smem S80x1 .f32) (harg3 : arg3.IsWhole) (arg4 : Memref sig .tc .vmem S1x256x128 .fp8e4m3) (harg4 : arg4.IsWhole)
    (arg5 : Memref sig .tc .vmem S1x7808x128 .fp8e4m3) (harg5 : arg5.IsWhole) (arg6 : Memref sig .tc .vmem S1x128x7808 .fp8e4m3) (harg6 : arg6.IsWhole)
    (arg7 : Memref sig .tc .vmem S1x256x128 .bf16) (harg7 : arg7.IsWhole) (arg8 : Memref sig .tc .vmem S7808x256 .f32) (harg8 : arg8.IsWhole)
    (arg9 : Memref sig .tc .vmem S8x256 .f32) (harg9 : arg9.IsWhole)
    (d : Vec Ideal S1x256x128 .fp8e4m3) (z : Vec Ideal S7808x256 .f32) (mx : Vec Ideal S8x256 .f32) (hh : Held m c t.val z mx) (K : PUnit → sProp 𝕄) :
    iprop(owns (c : Thread nD τ) arg1 fullShare (iblk m c 0 t) ∗ owns (c : Thread nD τ) arg2 fullShare (iblk m c 1 t) ∗ owns (c : Thread nD τ) arg3 fullShare (iblk m c 2 t) ∗ owns (c : Thread nD τ) arg4 fullShare ((cfg0.win 3).fill (grid0.coords t) d (iblk m c 3 t)) ∗ owns (c : Thread nD τ) arg5 fullShare (iblk m c 4 t) ∗ owns (c : Thread nD τ) arg6 fullShare (iblk m c 5 t) ∗ (∃ d, owns (c : Thread nD τ) arg7 fullShare d) ∗ owns (c : Thread nD τ) arg8 fullShare z ∗ owns (c : Thread nD τ) arg9 fullShare mx
        ∗ (∀ o z' mx', iprop(owns (c : Thread nD τ) arg1 fullShare (iblk m c 0 t) ∗ owns (c : Thread nD τ) arg2 fullShare (iblk m c 1 t) ∗ owns (c : Thread nD τ) arg3 fullShare (iblk m c 2 t) ∗ owns (c : Thread nD τ) arg4 fullShare ((cfg0.win 3).fill (grid0.coords t) d (iblk m c 3 t)) ∗ owns (c : Thread nD τ) arg5 fullShare (iblk m c 4 t) ∗ owns (c : Thread nD τ) arg6 fullShare (iblk m c 5 t) ∗ owns (c : Thread nD τ) arg7 fullShare o ∗ owns (c : Thread nD τ) arg8 fullShare z' ∗ owns (c : Thread nD τ) arg9 fullShare mx'
          ∗ ⌜Held m c (t.val + 1) z' mx' ∧ (cfg0.win 6).cut (grid0.coords t) o = (cfg0.win 6).cut (grid0.coords t) (oblk m c t)⌝) -∗ K ⟨⟩))
      ⊢ wp frame (wpE (defs₀ (F := Ideal)) Variants.none c none) E (cc0_attend (grid0.coords t) arg1 harg1 arg2 harg2 arg3 harg3 arg4 harg4 arg5 harg5 arg6 harg6 arg7 harg7 arg8 harg8 arg9 harg9) K := by
  by_cases hc : k0_cond1 (grid0.coords t) = 1#1
  · have ht := (Grid.cond1 t).mp hc
    iintro ⟨H0, H1, H2, H3, H4, H5, H6, Hz, Hm, Hk⟩
    iapply (FirstPoint.run c E (grid0.coords t) arg1 harg1 arg2 harg2 arg3 harg3 arg4 harg4 arg5 harg5 arg6 harg6 arg7 harg7 arg8 harg8 arg9 harg9 hc (iblk m c 0 t) (iblk m c 1 t) (iblk m c 2 t) ((cfg0.win 3).fill (grid0.coords t) d (iblk m c 3 t)) (iblk m c 4 t) (iblk m c 5 t) z mx K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hz]; · iexact Hz
    isplitl [Hm]; · iexact Hm
    iintro %o %z' %mx' ⟨H0, H1, H2, H3, H4, H5, H6, Hz, Hm, %hp⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hz]; · iexact Hz
    isplitl [Hm]; · iexact Hm
    ipureintro
    exact ⟨held_succ m c t d hp, out_cut m c t hp fun j _ => held_zero m c t ht j⟩
  · have ht : t.val ≠ 0 := fun h => hc ((Grid.cond1 t).mpr h)
    iintro ⟨H0, H1, H2, H3, H4, H5, H6, Hz, Hm, Hk⟩
    iapply (LaterPoint.run c E (grid0.coords t) arg1 harg1 arg2 harg2 arg3 harg3 arg4 harg4 arg5 harg5 arg6 harg6 arg7 harg7 arg8 harg8 arg9 harg9 hc (iblk m c 0 t) (iblk m c 1 t) (iblk m c 2 t) ((cfg0.win 3).fill (grid0.coords t) d (iblk m c 3 t)) (iblk m c 4 t) (iblk m c 5 t) z mx K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hz]; · iexact Hz
    isplitl [Hm]; · iexact Hm
    iintro %o %z' %mx' ⟨H0, H1, H2, H3, H4, H5, H6, Hz, Hm, %hp⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [Hz]; · iexact Hz
    isplitl [Hm]; · iexact Hm
    ipureintro
    exact ⟨held_succ m c t d hp, out_cut m c t hp fun j hj => hh (Nat.pos_of_ne_zero ht) j (hj.resolve_left ht)⟩

/-- The pipeline's body obligation, from `body_point` at the point's buffers and the two scratch buffers. -/
theorem body_obligation (c : Dev nD) :
    BodyObligationLoose (dats m 0 c) (defs₀ (F := Ideal)) Variants.none () Set.univ := fun t => by
  rw [bigSep_W0, bigSep_W0, Run.defs₀_row]
  rw [show (dats m 0 c).owesAt () t.succ = (dats m 0 c).owesAt () t.castSucc from rfl]
  rw [show (dats m 0 c).Φ t.succ = iprop((∃ z mx, owns (c : Thread nD τ) (Memref.whole cc0_scratch0) fullShare z ∗ owns (c : Thread nD τ) (Memref.whole cc0_scratch1) fullShare mx ∗ ⌜Held m c (t.val + 1) z mx⌝) ∗ ∃ r, prngReg c r) from rfl,
    show (dats m 0 c).Φ t.castSucc = iprop((∃ z mx, owns (c : Thread nD τ) (Memref.whole cc0_scratch0) fullShare z ∗ owns (c : Thread nD τ) (Memref.whole cc0_scratch1) fullShare mx ∗ ⌜Held m c t.val z mx⌝) ∗ ∃ r, prngReg c r) from rfl]
  unfold bodyAt0
  iintro ⟨⟨⟨%z, %mx, Hz, Hm, %hh⟩, Hr⟩, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4, before_5 m c t d5]
  iapply (body_point m c Set.univ t _ _ _ _ _ _ _ _ _ _ _ _ _ _ _ _ _ _ d3 z mx hh _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [Hz]; · iexact Hz
  isplitl [Hm]; · iexact Hm
  iintro %o %z' %mx' ⟨H0, H1, H2, H3, H4, H5, H6, Hz, Hm, %hp⟩
  isplitl [Hz Hm Hr]
  · isplitl [Hz Hm]
    · iexists z'; iexists mx'
      isplitl [Hz]; · iexact Hz
      isplitl [Hm]; · iexact Hm
      ipureintro; exact hp.1
    · iexact Hr
  isplitl [Ho]; · iexact Ho
  rw [after_0, after_1, after_2, after_3, after_4, after_5, after_6]
  isplitl [H0]; · iexact H0
  isplitl [H1]; · iexact H1
  isplitl [H2]; · iexact H2
  isplitl [H3]
  · iexists d3
    change _ ⊢ owns _ _ _ ((cfg0.win 3).fill (grid0.coords t) d3 ((cfg0.win 3).cut (grid0.coords t) (qblk m c t)))
    unfold qblk; rw [Pipeline.Window.cut_fill]
  isplitl [H4]; · iexact H4
  isplitl [H5]; · iexact H5
  iexists o
  change _ ⊢ owns _ _ _ ((cfg0.win 6).fill (grid0.coords t) o ((cfg0.win 6).cut (grid0.coords t) (oblk m c t)))
  rw [Pipeline.Window.fill_congr_cut _ _ hp.2]

-- the launch theorem's implicit arguments are found by unifying its conclusion with this one
set_option backward.isDefEq.respectTransparency.types false in
set_option maxHeartbeats 800000 in
/-- The run: the result array ends at what the points wrote back, every other array as the region found it. -/
theorem run_main : θ_run defs (onTc (τ := τ) (main (F := Ideal))) ⟨m, fun _ => 0, ρ⟩ (Pipeline.FramePost cfgs (dats m) 0 (V m)) :=
  Pipeline.θ_run_frame_track cfgs (dats m) (0 : Fin 1) launch0 defs₀ Variants.none m ρ main
    (hbody := fun c => body_obligation m c)
    (hshare := fun c => (dats m 0 c).share_full fun _ => rfl) (howed := fun _ _ => rfl)
    (V := V m) (hmain := hmain m Variants.none) (hA := A_eq m)
    (hin := fun c => by
      rw [show (dats m 0 c).Φ 0 = iprop((∃ z mx, owns (c : Thread nD τ) (Memref.whole cc0_scratch0) fullShare z ∗ owns (c : Thread nD τ) (Memref.whole cc0_scratch1) fullShare mx ∗ ⌜Held m c 0 z mx⌝) ∗ ∃ r, prngReg c r) from rfl]
      change Pipeline.ΦA spec0 c ⊢ _
      unfold Pipeline.ΦA
      rw [scopedRest0_eq]
      iintro ⟨⟨⟨%z, Hz⟩, ⟨%mm, Hm⟩⟩, Hr⟩
      isplitl [Hz Hm]
      · iexists z; iexists mm
        isplitl [Hz]; · rw [owns_whole]; iexact Hz
        isplitl [Hm]; · rw [owns_whole]; iexact Hm
        ipureintro; exact fun h => absurd h (lt_irrefl 0)
      · iexact Hr)
    (hout := fun c => by
      rw [show (dats m 0 c).Φ (Fin.last cfg0.N) = iprop((∃ z mx, owns (c : Thread nD τ) (Memref.whole cc0_scratch0) fullShare z ∗ owns (c : Thread nD τ) (Memref.whole cc0_scratch1) fullShare mx ∗ ⌜Held m c cfg0.N z mx⌝) ∗ ∃ r, prngReg c r) from rfl]
      change _ ⊢ Pipeline.ΦA spec0 c
      unfold Pipeline.ΦA
      rw [scopedRest0_eq]
      iintro ⟨⟨%z, %mm, Hz, Hm, -⟩, Hr⟩
      isplitl [Hz Hm]
      · isplitl [Hz]
        · iexists z; rw [← owns_whole (c : Thread nD τ) cc0_scratch0 fullShare z]; iexact Hz
        · iexists mm; rw [← owns_whole (c : Thread nD τ) cc0_scratch1 fullShare mm]; iexact Hm
      · iexact Hr)
    (Q' := _) (hQ' := fun _ h => h.1)

end Cert.KernelIdeal.Track

end
-- ==== Proof.KernelPoint.lean ====
module

public import proofs.«01_k».proof.Proof.Attention
public import proofs.«01_k».proof.Proof.KernelBlocks
public import proofs.«01_k».proof.Proof.TrackRun

/-! The kernel's result array, entry by entry, in terms of the arguments. -/

@[expose] public section

set_option maxRecDepth 16384

noncomputable section

namespace Cert.KernelIdeal.Value

open Cert.KernelIdeal Cert.KernelIdeal.Gen Cert.KernelIdeal.Steps Cert.KernelIdeal.Body Cert.KernelIdeal.Track
open Idealize.ShloMosaic Idealize.ShloMosaic.TcCoe Idealize.ShloMosaic.Tactic Finset

variable (m : (ℓ : Loc nD τ sig) → Buf (Elt Ideal) ℓ)

/-- The named constant's value. -/
theorem foldC_eq : foldC = (((Real.log 2)⁻¹ * (Real.sqrt 128)⁻¹ : ℝ) : EReal) :=
  IdealRules.named_const.ideal_named_scalar κ "log2e_inv_sqrt_d" _ _ rfl

/-- A scale read within its array. -/
theorem scalesOf_apply {n : ℕ} (x : Vec Ideal ⟨2, ![80, n]⟩ .f32) (b j : ℕ) (h : Fin 80) (i : Fin n) (hb : b = h) (hj : j = i) : scalesOf x b j = x (ix2 h i) := by
  subst hb hj; unfold scalesOf; rw [dif_pos ⟨h.isLt, i.isLt⟩]

/-- A point's scores, at a live column, are attention's for its head and its tile's query. -/
theorem scoresAt_apply (c : Dev nD) (t : Fin cfg0.N) (h : Fin 80) (hh : h.val = min t.val 2479 / 31) (j : Fin 256)
    (n : Fin 7800) (hn : n.val = 256 * (min t.val 2479 % 31) + j) (r : Fin 7800) :
    scoresAt m c t r j = Attention.scaled (m ((c.tc : Thread nD τ).loc main_arg0)) (m ((c.tc : Thread nD τ).loc main_arg1)) (m ((c.tc : Thread nD τ).loc main_arg3)) (m ((c.tc : Thread nD τ).loc main_arg4)) h n r := by
  obtain ⟨a0, a1⟩ := Grid.off2 t
  obtain ⟨b0, b1⟩ := Grid.off3 t
  have c0 := Grid.off4 t
  have hk : ∀ e, keysOf (iblk m c 4 t) r e = _ := fun e => (keys_apply m c t h hh ⟨r.val, by omega⟩ e).trans (entry_k m c h _ e)
  have hq : ∀ e, queriesOf (qblk m c t) j e = _ := fun e => (queries_apply m c t h hh j ⟨n.val, by omega⟩ hn n.isLt e).trans (entry_q m c h _ e)
  have hs : rowScale (scalesOf (iblk m c 0 t) (k0_off2 (grid0.coords t) 0) (k0_off2 (grid0.coords t) 1)) (scalesOf (iblk m c 0 t) (k0_off3 (grid0.coords t) 0) (k0_off3 (grid0.coords t) 1)) j
      = (m ((c.tc : Thread nD τ).loc main_arg3) : Vec Ideal S2x61x40 .f32) (ix3 (batch h) ⟨n.val / 128, by omega⟩ (head h)) := by
    rw [← entry_qs m c h ⟨n.val / 128, by omega⟩, iblk_0]
    unfold rowScale
    have hj := j.isLt
    have hn' := n.isLt
    split
    · exact scalesOf_apply _ _ _ h _ (a0.trans hh.symm) (a1.trans (by show _ = n.val / 128; omega))
    · exact scalesOf_apply _ _ _ h _ (b0.trans hh.symm) (b1.trans (by show _ = n.val / 128; omega))
  have hr : scalesOf (iblk m c 1 t) (k0_off4 (grid0.coords t) 0) (r.val / 128)
      = (m ((c.tc : Thread nD τ).loc main_arg4) : Vec Ideal S2x61x40 .f32) (ix3 (batch h) ⟨r.val / 128, by omega⟩ (head h)) := by
    rw [← entry_ks m c h ⟨r.val / 128, by omega⟩, iblk_1]
    exact scalesOf_apply _ _ _ h _ (c0.trans hh.symm) rfl
  unfold scoresAt pointScores scoreRows Attention.scaled
  rw [hs, hr, foldC_eq, Finset.sum_congr rfl fun e _ => congrArg₂ (· * ·) (hk e) (hq e)]

/-- The scores held for point `t`, likewise. -/
theorem held_apply (c : Dev nD) (t : Fin cfg0.N) (ht : 0 < t.val) (h : Fin 80) (hh : h.val = (t.val - 1) / 31) (j : Fin 256)
    (n : Fin 7800) (hn : n.val = 256 * ((t.val - 1) % 31) + j) (r : Fin 7800) :
    heldScores m c t.val r j = Attention.scaled (m ((c.tc : Thread nD τ).loc main_arg0)) (m ((c.tc : Thread nD τ).loc main_arg1)) (m ((c.tc : Thread nD τ).loc main_arg3)) (m ((c.tc : Thread nD τ).loc main_arg4)) h n r := by
  have hN : t.val < 2481 := t.isLt
  have hm : min (t.val - 1) 2479 = t.val - 1 := by omega
  unfold heldScores
  rw [dif_pos ⟨ht, lt_of_le_of_lt (Nat.sub_le _ _) t.isLt⟩]
  exact scoresAt_apply m c ⟨t.val - 1, _⟩ h (hh.trans (by show _ = min (t.val - 1) 2479 / 31; rw [hm])) j n (hn.trans (by show _ = 256 * (min (t.val - 1) 2479 % 31) + _; rw [hm])) r

/-- What a point past the first writes, at a live column. -/
theorem outAt_apply (c : Dev nD) (t : Fin cfg0.N) (ht : 0 < t.val) (h : Fin 80) (hh : h.val = (t.val - 1) / 31) (j : Fin 256)
    (n : Fin 7800) (hn : n.val = 256 * ((t.val - 1) % 31) + j) (d : Fin 128) :
    outAt m c t j d = Attention.kernel (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) h n d := by
  obtain ⟨a0, a1⟩ := Grid.off65 t
  have hz : ∀ r : Fin 7800, _ = _ := held_apply m c t ht h hh j n hn
  have hp : ∀ r : Fin 7800, expRows (heldScores m c t) (fun i => heldTop m c t (i 1)) r j
      = Ideal.exp2 (Attention.scaled (m ((c.tc : Thread nD τ).loc main_arg0)) (m ((c.tc : Thread nD τ).loc main_arg1)) (m ((c.tc : Thread nD τ).loc main_arg3)) (m ((c.tc : Thread nD τ).loc main_arg4)) h n r
        - ((⨆ s, Attention.scaled (m ((c.tc : Thread nD τ).loc main_arg0)) (m ((c.tc : Thread nD τ).loc main_arg1)) (m ((c.tc : Thread nD τ).loc main_arg3)) (m ((c.tc : Thread nD τ).loc main_arg4)) h n s) - ((8 : ℝ) : EReal))) := fun r => by
    show Ideal.exp2 (heldScores m c t r j - heldTop m c t j) = _
    unfold heldTop topOf
    rw [if_pos ht, hz r, iSup_congr hz]
  have hv : ∀ r : Fin 7800, valsOf (iblk m c 5 t) d r = Attention.value (m ((c.tc : Thread nD τ).loc main_arg2)) h d r := fun r =>
    (vals_apply m c t h hh ⟨r.val, by omega⟩ d).trans (entry_v m c h d _)
  have hs : scalesOf (iblk m c 2 t) (k0_off65 (grid0.coords t) 0) (k0_off65 (grid0.coords t) 1) = (m ((c.tc : Thread nD τ).loc main_arg5) : Vec Ideal S2x40 .f32) (ix2 (batch h) (head h)) := by
    rw [← entry_vs m c h, iblk_2]
    exact scalesOf_apply _ _ _ h 0 (a0.trans hh.symm) a1
  unfold outAt Attention.kernel
  rw [hs, Finset.sum_range, Finset.sum_range, Finset.sum_congr rfl fun r _ => hp r, Finset.sum_congr rfl fun r _ => congrArg₂ (· * ·) (hv r) (hp r)]

end Cert.KernelIdeal.Value

end
-- ==== Proof.KernelResult.lean ====
module

public import proofs.«01_k».proof.Proof.KernelPoint

/-! The kernel's result array after the run, and the run. -/

@[expose] public section

set_option maxRecDepth 16384

noncomputable section

namespace Cert.KernelIdeal.Value

open Cert.KernelIdeal Cert.KernelIdeal.Gen Cert.KernelIdeal.Steps Cert.KernelIdeal.Body Cert.KernelIdeal.Track
open Idealize.ShloMosaic Idealize.ShloMosaic.TcCoe Idealize.ShloMosaic.Tactic Idealize.SL.Sem Finset

variable (m : (ℓ : Loc nD τ sig) → Buf (Elt Ideal) ℓ) (ρ : Dev nD → PrngReg)

/-- The first point writes nothing back: the second has the same block. -/
theorem flush_zero : (cfg0.win 6).flush ⟨0, by decide⟩ = false := by decide +kernel

/-- Every later point writes its block back: the next has another. -/
theorem flush_pos (t : Fin cfg0.N) (ht : 0 < t.val) : (cfg0.win 6).flush t = true := by
  have hN : t.val < 2481 := t.isLt
  unfold Pipeline.Window.flush
  rw [Bool.and_eq_true]
  refine ⟨rfl, ?_⟩
  rw [Bool.or_eq_true]
  by_cases hl : t.val + 1 = 2481
  · exact .inl (decide_eq_true hl)
  · refine .inr (decide_eq_true ⟨(by show t.val + 1 < 2481; omega), fun e => ?_⟩)
    have h1 : cc0_transform_6 (grid0.coords ⟨t.val + 1, by show t.val + 1 < 2481; omega⟩) 1 = cc0_transform_6 (grid0.coords t) 1 := congrFun e 1
    rw [(Grid.map6 _).2.1, (Grid.map6 _).2.1] at h1
    simp only at h1
    omega

/-- The result array: attention of the arguments. -/
def result (c : Dev nD) : Vec Ideal S2x7800x5120 .bf16 :=
  Attention.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The result at coordinates given by head, query and channel. -/
theorem result_apply (c : Dev nD) (i : S2x7800x5120.Idx) (h : Fin 80) (n : Fin 7800) (d : Fin 128)
    (h0 : (i 0).val = h.val / 40) (h1 : (i 1).val = n.val) (h2 : (i 2).val = h.val % 40 * 128 + d.val) :
    result m c i = Attention.kernel (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) h n d := by
  unfold result Attention.result
  have e0 : ∀ p, (⟨(i 0).val * 40 + (i 2).val / 128, p⟩ : Fin 80) = h := fun _ => Fin.ext (by show (i 0).val * 40 + (i 2).val / 128 = h.val; omega)
  have e2 : ∀ p, (⟨(i 2).val % 128, p⟩ : Fin 128) = d := fun _ => Fin.ext (by show (i 2).val % 128 = d.val; omega)
  have e1 : i 1 = n := Fin.ext h1
  rw [e0, e1, e2]

/-- An output block, at coordinates: its head and its tile's queries. -/
theorem emb_6 (t : Fin cfg0.N) (y : ((cfg0.win 6).xblock (cfg0.grid.coords t)).Idx) :
    (((cfg0.win 6).blk t).view.emb y 0).val = (t.val - 1) / 31 / 40 + (y (0 : Fin 3)).val
      ∧ (((cfg0.win 6).blk t).view.emb y 1).val = (t.val - 1) % 31 * 256 + (y (1 : Fin 3)).val
      ∧ (((cfg0.win 6).blk t).view.emb y 2).val = (t.val - 1) / 31 % 40 * 128 + (y (2 : Fin 3)).val := by
  obtain ⟨h0, h1, h2⟩ := Grid.map6 t
  have e0 : win0_6.index t 0 = _ := h0
  have e1 : win0_6.index t 1 = _ := h1
  have e2 : win0_6.index t 2 = _ := h2
  blk_simp [e0, e1, e2]
  exact ⟨trivial, trivial, trivial⟩

/-- Every written-back block is its part of the result. -/
theorem block_eq (c : Dev nD) (t : Fin cfg0.N) (ht : 0 < t.val) (y : ((cfg0.win 6).xblock (cfg0.grid.coords t)).Idx) :
    oblk m c t ((cfg0.win 6).xinj (cfg0.grid.coords t) y) = result m c (((cfg0.win 6).blk t).view.emb y) := by
  have hN : t.val < 2481 := t.isLt
  obtain ⟨s0, s1, s2⟩ := Grid.size6 t
  obtain ⟨e0, e1, e2⟩ := emb_6 t y
  have y0 : (y (0 : Fin 3)).val < 1 := lt_of_lt_of_eq (y (0 : Fin 3)).isLt s0
  have y1 : (y (1 : Fin 3)).val < _ := lt_of_lt_of_eq (y (1 : Fin 3)).isLt s1
  have y2 : (y (2 : Fin 3)).val < 128 := lt_of_lt_of_eq (y (2 : Fin 3)).isLt s2
  have hy : (t.val - 1) % 31 * 256 + (y (1 : Fin 3)).val < 7800 ∧ (y (1 : Fin 3)).val < 256 := by split at y1 <;> omega
  rw [result_apply m c _ ⟨(t.val - 1) / 31, by omega⟩ ⟨(t.val - 1) % 31 * 256 + (y (1 : Fin 3)).val, hy.1⟩ ⟨(y (2 : Fin 3)).val, y2⟩
    (e0.trans (by show _ = (t.val - 1) / 31 / 40; omega)) e1 e2]
  exact outAt_apply m c t ht _ rfl ⟨(y (1 : Fin 3)).val, hy.2⟩ _ (by show (t.val - 1) % 31 * 256 + (y (1 : Fin 3)).val = 256 * ((t.val - 1) % 31) + (y (1 : Fin 3)).val; omega) _

/-- Every entry of the result lies in a block written back. -/
theorem cover (i : S2x7800x5120.Idx) : ∃ t : Fin cfg0.N, (cfg0.win 6).flush t = true ∧ i ∈ ((cfg0.win 6).blk t).view.set := by
  have h0 : (i 0).val < 2 := (i 0).isLt
  have h1 : (i 1).val < 7800 := (i 1).isLt
  have h2 : (i 2).val < 5120 := (i 2).isLt
  have hT : ((i 0).val * 40 + (i 2).val / 128) * 31 + (i 1).val / 256 + 1 < 2481 := by omega
  obtain ⟨t, ht⟩ : ∃ t : Fin cfg0.N, t.val = ((i 0).val * 40 + (i 2).val / 128) * 31 + (i 1).val / 256 + 1 := ⟨⟨_, hT⟩, rfl⟩
  refine ⟨t, flush_pos t (by omega), ?_⟩
  obtain ⟨s0, s1, s2⟩ := Grid.size6 t
  have p1 : (t.val - 1) / 31 = (i 0).val * 40 + (i 2).val / 128 := by omega
  have p2 : (t.val - 1) % 31 = (i 1).val / 256 := by omega
  have q : ∃ y : ((cfg0.win 6).xblock (cfg0.grid.coords t)).Idx, (y (0 : Fin 3)).val = 0 ∧ (y (1 : Fin 3)).val = (i 1).val % 256 ∧ (y (2 : Fin 3)).val = (i 2).val % 128 := by
    refine ⟨fun a => match a with
      | ⟨0, _⟩ => ⟨0, lt_of_lt_of_eq (by decide) s0.symm⟩
      | ⟨1, _⟩ => ⟨(i 1).val % 256, lt_of_lt_of_eq (by split <;> omega) s1.symm⟩
      | ⟨2, _⟩ => ⟨(i 2).val % 128, lt_of_lt_of_eq (by omega) s2.symm⟩, rfl, rfl, rfl⟩
  obtain ⟨y, y0, y1, y2⟩ := q
  obtain ⟨e0, e1, e2⟩ := emb_6 t y
  have e : ((cfg0.win 6).blk t).view.emb y = i := by
    funext a
    match a with
    | ⟨0, _⟩ => exact Fin.ext (e0.trans (by rw [p1, y0]; show _ = (i 0).val; omega))
    | ⟨1, _⟩ => exact Fin.ext (e1.trans (by rw [p2, y1]; show _ = (i 1).val; omega))
    | ⟨2, _⟩ => exact Fin.ext (e2.trans (by rw [p1, y2]; show _ = (i 2).val; omega))
  rw [← e]
  exact View.emb_mem_set _ y

/-- So the result array ends holding attention of the arguments. -/
theorem final_o (c : Dev nD) : (dats m 0 c).arrAt 6 cfg0.N = result m c := by
  refine (dats m 0 c).arrAt_eq_of_emb 6 (result m c) (fun t hf y => ?_) cover
  have ht : 0 < t.val := by
    rcases Nat.eq_zero_or_pos t.val with h | h
    · have : t = ⟨0, by decide⟩ := Fin.ext h
      rw [this, flush_zero] at hf
      exact absurd hf (by decide)
    · exact h
  rw [after_6]
  exact block_eq m c t ht y

/-- The run: the result array at attention of the arguments, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Value

end
-- ==== Proof.RefValue.lean ====
module

public import proofs.«01_k».proof.Proof.Gen.ReferenceIdeal
public import proofs.«01_k».proof.Proof.Gen.ReferenceIdeal.Frame
public import Idealize.ShloMosaic.Lib.Tactic
public import Idealize.ShloMosaic.Lib.Claim
public import Idealize.ShloMosaic.Lib.Pointwise
public import Idealize.ShloMosaic.Lib.ValueIdx

/-! What the reference's body computes over the extended reals, at a head, a query and a channel. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Finset

/-- The number the reference multiplies the scores by: `1 / sqrt 128`. -/
def invSqrt : EReal := Named.named (F := Ideal) κ "inv_sqrt_d" (φ := .f32) 0x3DB504F3#32

variable (q k : Vec Ideal S80x7808x128 .fp8e4m3) (v : Vec Ideal S80x128x7808 .fp8e4m3) (qs : Vec Ideal S80x7800x1 .f32) (ks : Vec Ideal S80x1x7800 .f32) (vs : Vec Ideal S80x1x1 .f32)

/-- The score of query `n` against key `r` of head `h`. -/
def score (h : Fin 80) (n r : Fin 7800) : EReal :=
  (∑ e : Fin 128, q (ix3 h ⟨n.val, by omega⟩ e) * k (ix3 h ⟨r.val, by omega⟩ e)) * qs (ix3 h n 0) * ks (ix3 h 0 r) * invSqrt

/-- The greatest score of a query. -/
def top (h : Fin 80) (n : Fin 7800) : EReal := ⨆ r : Fin 7800, score q k qs ks h n r

/-- The word of minus infinity. -/
theorem negInf : Ideal.ofBits .f32 0xFF800000#32 = (⊥ : EReal) := by simp [Ideal.ofBits, Ideal.ieee]

/-- The exponentials. -/
theorem pay2_apply (h : Fin 80) (n r : Fin 7800) : k0_pay2 q k qs ks (ix3 h n r) = Ideal.exp (score q k qs ks h n r - top q k qs ks h n) := by
  unfold k0_pay2
  pointwise
  rw [negInf, top, ← Finset.sup_univ_eq_iSup]
  rfl

/-- The softmax sums. -/
theorem pay3_apply (h : Fin 80) (n : Fin 7800) : k0_pay3 q k qs ks (ix3 h n 0) = ∑ r : Fin 7800, k0_pay2 q k qs ks (ix3 h n r) := by
  unfold k0_pay3
  pointwise
  done

/-- The product of the clipped probabilities with the values. -/
theorem pay4_apply (h : Fin 80) (n : Fin 7800) (d : Fin 128) : k0_pay4 q k qs ks v (ix3 h n d)
    = ∑ r : Fin 7800, min (Ideal.ofBits .f32 0x43E00000#32) (max (Ideal.ofBits .f32 0#32) (k0_pay2 q k qs ks (ix3 h n r) * Ideal.ofBits .f32 0x43800000#32)) * v (ix3 h d ⟨r.val, by omega⟩) := by
  unfold k0_pay4
  pointwise
  done

/-- The output: the product times the output scale, laid out by batch, query and channel of all heads. -/
theorem pay1_apply (l : FVec Ideal S80x7800x1 .f32) (a : FVec Ideal S80x7800x128 .f32) (b : Fin 2) (n : Fin 7800) (e : Fin 5120) : k0_pay1 l a vs (ix3 b n e)
    = a (ix3 ⟨b.val * 40 + e.val / 128, by omega⟩ n ⟨e.val % 128, by omega⟩)
      * Ideal.div (Ideal.div (vs (ix3 ⟨b.val * 40 + e.val / 128, by omega⟩ 0 0)) (Ideal.ofBits .f32 0x43800000#32)) (l (ix3 ⟨b.val * 40 + e.val / 128, by omega⟩ n 0)) := by
  unfold k0_pay1
  pointwise
  done

end Cert.ReferenceIdeal.Value

end
-- ==== Proof.RefEntry.lean ====
module

public import proofs.«01_k».proof.Proof.RefValue

/-! What the arrays the reference's region is entered with hold, in terms of the arguments. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.SL.Sem Finset

variable (m : (ℓ : Loc nD τ sig) → Buf (Elt Ideal) ℓ) (c : Dev nD) (h : Fin 80)

/-- The batch of a head of the flattened array, and its head of that batch. -/
abbrev batch : Fin 2 := ⟨h.val / 40, by omega⟩
abbrev head : Fin 40 := ⟨h.val % 40, by omega⟩

/-- The query codes. -/
theorem entry_q (n : Fin 7808) (e : Fin 128) : (V m c main_v6 : Vec Ideal S80x7808x128 .fp8e4m3) (ix3 h n e) = (m ((c.tc : Thread nD τ).loc main_arg0) : Vec Ideal S2x40x7808x128 .fp8e4m3) (ix4 (batch h) (head h) n e) := by
  entry_read
  pointwise

/-- The key codes. -/
theorem entry_k (n : Fin 7808) (e : Fin 128) : (V m c main_v7 : Vec Ideal S80x7808x128 .fp8e4m3) (ix3 h n e) = (m ((c.tc : Thread nD τ).loc main_arg1) : Vec Ideal S2x40x7808x128 .fp8e4m3) (ix4 (batch h) (head h) n e) := by
  entry_read
  pointwise

/-- The value codes. -/
theorem entry_v (e : Fin 128) (n : Fin 7808) : (V m c main_v8 : Vec Ideal S80x128x7808 .fp8e4m3) (ix3 h e n) = (m ((c.tc : Thread nD τ).loc main_arg2) : Vec Ideal S2x40x128x7808 .fp8e4m3) (ix4 (batch h) (head h) e n) := by
  entry_read
  pointwise

/-- The query scales, one per token. -/
theorem entry_qs (n : Fin 7800) : (V m c main_v10 : Vec Ideal S80x7800x1 .f32) (ix3 h n 0) = (m ((c.tc : Thread nD τ).loc main_arg3) : Vec Ideal S2x61x40 .f32) (ix3 (batch h) ⟨n.val / 128, by omega⟩ (head h)) := by
  entry_read
  pointwise

/-- The key scales, one per token. -/
theorem entry_ks (n : Fin 7800) : (V m c main_v12 : Vec Ideal S80x1x7800 .f32) (ix3 h 0 n) = (m ((c.tc : Thread nD τ).loc main_arg4) : Vec Ideal S2x61x40 .f32) (ix3 (batch h) ⟨n.val / 128, by omega⟩ (head h)) := by
  entry_read
  pointwise

/-- The value scales. -/
theorem entry_vs : (V m c main_v13 : Vec Ideal S80x1x1 .f32) (ix3 h 0 0) = (m ((c.tc : Thread nD τ).loc main_arg5) : Vec Ideal S2x40 .f32) (ix2 (batch h) (head h)) := by
  entry_read
  pointwise

end Cert.ReferenceIdeal.Value

end
-- ==== Proof.RefRun.lean ====
module

public import proofs.«01_k».proof.Proof.RefValue
public import Idealize.ShloMosaic.Lib.Pipeline.Value
public import Idealize.ShloMosaic.Lib.Pipeline.ValueKit

/-! The reference's run: its result array, as the body's value of the arrays its region is entered with. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.SL.Sem Finset

variable (m : (ℓ : Loc nD τ sig) → Buf (Elt Ideal) ℓ) (ρ : Dev nD → PrngReg)

/-- The body's value of the arrays the region is entered with. -/
def value (c : Dev nD) : Vec Ideal S2x7800x5120 .bf16 :=
  k0_pay1 (k0_pay3 (V m c main_v6) (V m c main_v7) (V m c main_v10) (V m c main_v12))
    (k0_pay4 (V m c main_v6) (V m c main_v7) (V m c main_v10) (V m c main_v12) (V m c main_v8)) (V m c main_v13)

/-- The offsets of an access to a whole array are zero. -/
theorem hz : (![0, 0, 0] : Fin 3 → Nat) = fun _ => 0 := funext fun a => by fin_cases a <;> rfl

/-- Every input's block is its array. -/
theorem iblk_0 (c : Dev nD) (t : Fin cfg0.N) : iblk m c 0 t = V m c main_v6 := by
  funext y; unfold iblk; blk_simp; refine congrArg (V m c main_v6) ?_
  have e : ∀ a, win0_0.index t a = 0 := fun _ => rfl
  blk_ext [e]
/-- Window 1's block is its array. -/
theorem iblk_1 (c : Dev nD) (t : Fin cfg0.N) : iblk m c 1 t = V m c main_v7 := by
  funext y; unfold iblk; blk_simp; refine congrArg (V m c main_v7) ?_
  have e : ∀ a, win0_1.index t a = 0 := fun _ => rfl
  blk_ext [e]
/-- Window 2's block is its array. -/
theorem iblk_2 (c : Dev nD) (t : Fin cfg0.N) : iblk m c 2 t = V m c main_v8 := by
  funext y; unfold iblk; blk_simp; refine congrArg (V m c main_v8) ?_
  have e : ∀ a, win0_2.index t a = 0 := fun _ => rfl
  blk_ext [e]
/-- Window 3's block is its array. -/
theorem iblk_3 (c : Dev nD) (t : Fin cfg0.N) : iblk m c 3 t = V m c main_v10 := by
  funext y; unfold iblk; blk_simp; refine congrArg (V m c main_v10) ?_
  have e : ∀ a, win0_3.index t a = 0 := fun _ => rfl
  blk_ext [e]
/-- Window 4's block is its array. -/
theorem iblk_4 (c : Dev nD) (t : Fin cfg0.N) : iblk m c 4 t = V m c main_v12 := by
  funext y; unfold iblk; blk_simp; refine congrArg (V m c main_v12) ?_
  have e : ∀ a, win0_4.index t a = 0 := fun _ => rfl
  blk_ext [e]
/-- Window 5's block is its array. -/
theorem iblk_5 (c : Dev nD) (t : Fin cfg0.N) : iblk m c 5 t = V m c main_v13 := by
  funext y; unfold iblk; blk_simp; refine congrArg (V m c main_v13) ?_
  have e : ∀ a, win0_5.index t a = 0 := fun _ => rfl
  blk_ext [e]

/-- The one point leaves the body's value in the output block. -/
theorem after_eq (c : Dev nD) (t : Fin cfg0.N) : (dats m 0 c).after 6 t = value m c := by
  rw [after0_6]
  unfold out0_6
  rw [View.canon_unit_zero hz, View.ld_unit_zero hz, View.ld_unit_zero hz, View.ld_unit_zero hz, View.ld_unit_zero hz, View.ld_unit_zero hz, View.ld_unit_zero hz]
  rw [iblk_0, iblk_1, iblk_2, iblk_3, iblk_4, iblk_5]
  unfold value
  rfl

/-- So the result array ends holding the body's value. -/
theorem final_o (c : Dev nD) : (dats m 0 c).arrAt 6 cfg0.N = value m c := by
  refine (dats m 0 c).arrAt_eq_of_after_last 6 ⟨0, by decide +kernel⟩ (by decide +kernel) (value m c) fun j => ?_
  rw [after_eq]
  blk_simp

/-- The run: the result array at the body's value, the arguments unchanged. -/
theorem run : θ_run defs (onTc (τ := τ) (main (F := Ideal))) ⟨m, fun _ => 0, ρ⟩ fun r => ∀ c : Dev nD,
      r.2.mem ((c.tc : Thread nD τ).loc main_v14) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ReferenceIdeal.Value

end
-- ==== Proof.RefResult.lean ====
module

public import proofs.«01_k».proof.Proof.Attention
public import proofs.«01_k».proof.Proof.RefEntry
public import proofs.«01_k».proof.Proof.RefRun

/-! The reference's result array, entry by entry, in terms of the arguments. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Finset

variable (m : (ℓ : Loc nD τ sig) → Buf (Elt Ideal) ℓ)

/-- The named constant's value. -/
theorem invSqrt_eq : invSqrt = (((Real.sqrt 128)⁻¹ : ℝ) : EReal) :=
  IdealRules.named_const.ideal_named_scalar κ "inv_sqrt_d" _ _ rfl

/-- The body's scores are attention's. -/
theorem score_eq (c : Dev nD) (h : Fin 80) (n r : Fin 7800) :
    score (V m c main_v6) (V m c main_v7) (V m c main_v10) (V m c main_v12) h n r
      = Attention.score (m ((c.tc : Thread nD τ).loc main_arg0)) (m ((c.tc : Thread nD τ).loc main_arg1)) (m ((c.tc : Thread nD τ).loc main_arg3)) (m ((c.tc : Thread nD τ).loc main_arg4)) h n r := by
  unfold score Attention.score
  rw [invSqrt_eq, entry_qs, entry_ks, Finset.sum_congr rfl fun e _ => by rw [entry_q, entry_k]]

/-- The body's exponentials are attention's. -/
theorem exp_eq (c : Dev nD) (h : Fin 80) (n r : Fin 7800) :
    k0_pay2 (V m c main_v6) (V m c main_v7) (V m c main_v10) (V m c main_v12) (ix3 h n r)
      = Ideal.exp (Attention.score (m ((c.tc : Thread nD τ).loc main_arg0)) (m ((c.tc : Thread nD τ).loc main_arg1)) (m ((c.tc : Thread nD τ).loc main_arg3)) (m ((c.tc : Thread nD τ).loc main_arg4)) h n r
        - ⨆ s, Attention.score (m ((c.tc : Thread nD τ).loc main_arg0)) (m ((c.tc : Thread nD τ).loc main_arg1)) (m ((c.tc : Thread nD τ).loc main_arg3)) (m ((c.tc : Thread nD τ).loc main_arg4)) h n s) := by
  rw [pay2_apply, score_eq]
  unfold top
  rw [iSup_congr fun s => score_eq m c h n s]

/-- The result at a batch, a query and a channel of the 5120. -/
theorem value_apply (c : Dev nD) (b : Fin 2) (n : Fin 7800) (e : Fin 5120) :
    value m c (ix3 b n e) = Attention.reference (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      ⟨b.val * 40 + e.val / 128, by omega⟩ n ⟨e.val % 128, by omega⟩ := by
  unfold value Attention.reference Attention.value
  rw [pay1_apply, pay4_apply, pay3_apply, entry_vs]
  exact congrArg₂ (· * ·) (Finset.sum_congr rfl fun r _ => by rw [exp_eq, entry_v])
    (congrArg (Ideal.div _) (Finset.sum_congr rfl fun r _ => exp_eq m c _ n r))

end Cert.ReferenceIdeal.Value

end
-- ==== Proof.Algebraic.lean ====
module

public import proofs.«01_k».proof.Defs
public import proofs.«01_k».proof.Proof.KernelResult
public import proofs.«01_k».proof.Proof.RefResult

/-! The idealized kernel and the idealized reference end with equal results. -/

@[expose] public section

set_option maxRecDepth 16384

noncomputable section

namespace Cert.Proof.Algebraic

open Idealize.ShloMosaic Idealize.SL.Sem

/-- From memories that agree on the arguments, the two results are the same array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.value m' c = Cert.KernelIdeal.Value.result m c := by
  funext i
  rw [eq_ix3 i]
  refine (Cert.ReferenceIdeal.Value.value_apply m' c _ _ _).trans ?_
  rw [h0, h1, h2, h3, h4, h5]
  exact (Cert.Attention.kernel_eq_reference _ _ _ _ _ _ _ _ _).symm

/-- The claim. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.KernelIdeal.Value.result m c, Cert.KernelIdeal.Value.run m ρ, ?_⟩
  refine (θ_run _ _ _).mono (fun _ h c => ⟨(h c).1.trans ?_, (h c).2⟩) (Cert.ReferenceIdeal.Value.run m' ρ')
  obtain ⟨h0, h1, h2, h3, h4, h5⟩ := hagree c
  exact results_eq m m' c h0 h1 h2 h3 h4 h5

end Cert.Proof.Algebraic

end
-- ==== Proof.lean ====
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim := ⟨Cert.Kernel.Gen.facts, Cert.KernelIdeal.Gen.facts, Cert.ReferenceIdeal.Gen.facts, Cert.Reference.Gen.facts,
  Frames.kernel, Frames.kernelIdeal, Frames.referenceIdeal, Frames.reference, Frames.preservesKernel, Frames.preservesReference,
  Algebraic.algebraic⟩

end Cert.Proof

end
